-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x7168 : Shape := ⟨3, ![8, 3072, 7168]⟩
abbrev S7168x9216 : Shape := ⟨2, ![7168, 9216]⟩
abbrev S9216 : Shape := ⟨1, ![9216]⟩
abbrev S24576x7168 : Shape := ⟨2, ![24576, 7168]⟩
abbrev S24576x1 : Shape := ⟨2, ![24576, 1]⟩
abbrev S256x7168 : Shape := ⟨2, ![256, 7168]⟩
abbrev S256x1 : Shape := ⟨2, ![256, 1]⟩
abbrev S256 : Shape := ⟨1, ![256]⟩
abbrev S1x9216 : Shape := ⟨2, ![1, 9216]⟩
abbrev S24576x4608 : Shape := ⟨2, ![24576, 4608]⟩
abbrev S1024x7168 : Shape := ⟨2, ![1024, 7168]⟩
abbrev S1024x1 : Shape := ⟨2, ![1024, 1]⟩
abbrev S7168x256 : Shape := ⟨2, ![7168, 256]⟩
abbrev S1x256 : Shape := ⟨2, ![1, 256]⟩
abbrev S1024x4608 : Shape := ⟨2, ![1024, 4608]⟩
abbrev S18x1024x256 : Shape := ⟨3, ![18, 1024, 256]⟩
abbrev S1024x128 : Shape := ⟨2, ![1024, 128]⟩
abbrev S1024x256 : Shape := ⟨2, ![1024, 256]⟩
abbrev S1x1024x256 : Shape := ⟨3, ![1, 1024, 256]⟩
abbrev S1024x2x128 : Shape := ⟨3, ![1024, 2, 128]⟩
abbrev S1024 : Shape := ⟨1, ![1024]⟩
abbrev S8x3072x1 : Shape := ⟨3, ![8, 3072, 1]⟩
abbrev S8x3072x4608 : Shape := ⟨3, ![8, 3072, 4608]⟩

abbrev nBuf : Space → Nat
  | .hbm => 13
  | .vmem => 24
  | .smem => 0
  | _ => 0

abbrev bufTy : (tb : Table) → Fin (tcTables nBuf tb) → BufTy
  | .hbm, ⟨0, _⟩ => ⟨S8x3072x7168, .bf16⟩
  | .hbm, ⟨1, _⟩ => ⟨S7168x9216, .fp8e4m3⟩
  | .hbm, ⟨2, _⟩ => ⟨S9216, .f32⟩
  | .hbm, ⟨3, _⟩ => ⟨S24576x7168, .bf16⟩
  | .hbm, ⟨4, _⟩ => ⟨S24576x7168, .fp8e4m3⟩
  | .hbm, ⟨5, _⟩ => ⟨S24576x1, .f32⟩
  | .hbm, ⟨6, _⟩ => ⟨S1x9216, .f32⟩
  | .hbm, ⟨7, _⟩ => ⟨S24576x1, .f32⟩
  | .hbm, ⟨8, _⟩ => ⟨S24576x4608, .fp8e4m3⟩
  | .hbm, ⟨9, _⟩ => ⟨S8x3072x1, .f32⟩
  | .hbm, ⟨10, _⟩ => ⟨S8x3072x4608, .fp8e4m3⟩
  | .hbm, ⟨11, _⟩ => ⟨S8x3072x7168, .fp8e4m3⟩
  | .hbm, ⟨12, _⟩ => ⟨S8x3072x1, .f32⟩
  | .local _ .vmem, ⟨0, _⟩ => ⟨S256x7168, .bf16⟩
  | .local _ .vmem, ⟨1, _⟩ => ⟨S256x7168, .bf16⟩
  | .local _ .vmem, ⟨2, _⟩ => ⟨S256x7168, .fp8e4m3⟩
  | .local _ .vmem, ⟨3, _⟩ => ⟨S256x7168, .fp8e4m3⟩
  | .local _ .vmem, ⟨4, _⟩ => ⟨S256x1, .f32⟩
  | .local _ .vmem, ⟨5, _⟩ => ⟨S256x1, .f32⟩
  | .local _ .vmem, ⟨6, _⟩ => ⟨S1024x7168, .fp8e4m3⟩
  | .local _ .vmem, ⟨7, _⟩ => ⟨S1024x7168, .fp8e4m3⟩
  | .local _ .vmem, ⟨8, _⟩ => ⟨S1024x1, .f32⟩
  | .local _ .vmem, ⟨9, _⟩ => ⟨S1024x1, .f32⟩
  | .local _ .vmem, ⟨10, _⟩ => ⟨S7168x256, .fp8e4m3⟩
  | .local _ .vmem, ⟨11, _⟩ => ⟨S7168x256, .fp8e4m3⟩
  | .local _ .vmem, ⟨12, _⟩ => ⟨S7168x256, .fp8e4m3⟩
  | .local _ .vmem, ⟨13, _⟩ => ⟨S7168x256, .fp8e4m3⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x1, .f32⟩
  | .local _ .vmem, ⟨19, _⟩ => ⟨S1024x1, .f32⟩
  | .local _ .vmem, ⟨20, _⟩ => ⟨S1024x4608, .fp8e4m3⟩
  | .local _ .vmem, ⟨21, _⟩ => ⟨S1024x4608, .fp8e4m3⟩
  | .local _ .vmem, ⟨22, _⟩ => ⟨S18x1024x256, .f32⟩
  | .local _ .vmem, ⟨23, _⟩ => ⟨S1024x128, .f32⟩
  | _, _ => ⟨S8x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![24, 18], ![false, false]⟩

def k1_off1 (i : grid1.Coords) : Fin 3 → Nat :=
  let arg1 : BitVec 32 := BitVec.ofNat 32 (i 1).val
  let v23 : Index := Scalar.indexCast arg1
  let c0_12 : Index := 0#32
  let c0_13 : Index := 0#32
  ![v23.toNat, 0, 0]
def k1_cond3 (i : grid1.Coords) : BitVec 1 :=
  let arg1 : BitVec 32 := BitVec.ofNat 32 (i 1).val
  let c17_i32 : BitVec 32 := 17#32
  let v36 : BitVec 1 := Scalar.cmpi .eq arg1 c17_i32
  let v37 : BitVec 32 := Scalar.extui v36
  let c0_i32_18 : BitVec 32 := 0#32
  let v38 : BitVec 1 := Scalar.cmpi .ne v37 c0_i32_18
  v38

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi arg1 c18_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi arg1 c18_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S7168x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S7168x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x4608 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S8x3072x7168 : Shape := ⟨3, ![8, 3072, 7168]⟩
abbrev S7168x9216 : Shape := ⟨2, ![7168, 9216]⟩
abbrev S9216 : Shape := ⟨1, ![9216]⟩
abbrev S24576x7168 : Shape := ⟨2, ![24576, 7168]⟩
abbrev S1x9216 : Shape := ⟨2, ![1, 9216]⟩
abbrev S24576x1 : Shape := ⟨2, ![24576, 1]⟩
abbrev S24576x4608 : Shape := ⟨2, ![24576, 4608]⟩
abbrev S24576 : Shape := ⟨1, ![24576]⟩
abbrev S1x252 : Shape := ⟨2, ![1, 252]⟩
abbrev S24576x252 : Shape := ⟨2, ![24576, 252]⟩
abbrev S24576x9216 : Shape := ⟨2, ![24576, 9216]⟩
abbrev S8x3072x1 : Shape := ⟨3, ![8, 3072, 1]⟩
abbrev S8x3072x4608 : Shape := ⟨3, ![8, 3072, 4608]⟩

abbrev nBuf : Space → Nat
  | .hbm => 13
  | .vmem => 7
  | .smem => 0
  | _ => 0

abbrev bufTy : (tb : Table) → Fin (tcTables nBuf tb) → BufTy
  | .hbm, ⟨0, _⟩ => ⟨S8x3072x7168, .bf16⟩
  | .hbm, ⟨1, _⟩ => ⟨S7168x9216, .fp8e4m3⟩
  | .hbm, ⟨2, _⟩ => ⟨S9216, .f32⟩
  | .hbm, ⟨3, _⟩ => ⟨S24576x7168, .bf16⟩
  | .hbm, ⟨4, _⟩ => ⟨S1x9216, .f32⟩
  | .hbm, ⟨5, _⟩ => ⟨S24576x1, .f32⟩
  | .hbm, ⟨6, _⟩ => ⟨S24576x4608, .fp8e4m3⟩
  | .hbm, ⟨7, _⟩ => ⟨S24576x7168, .fp8e4m3⟩
  | .hbm, ⟨8, _⟩ => ⟨S24576x1, .f32⟩
  | .hbm, ⟨9, _⟩ => ⟨S8x3072x1, .f32⟩
  | .hbm, ⟨10, _⟩ => ⟨S8x3072x4608, .fp8e4m3⟩
  | .hbm, ⟨11, _⟩ => ⟨S8x3072x7168, .fp8e4m3⟩
  | .hbm, ⟨12, _⟩ => ⟨S8x3072x1, .f32⟩
  | .local _ .vmem, ⟨0, _⟩ => ⟨S24576x7168, .bf16⟩
  | .local _ .vmem, ⟨1, _⟩ => ⟨S7168x9216, .fp8e4m3⟩
  | .local _ .vmem, ⟨2, _⟩ => ⟨S1x9216, .f32⟩
  | .local _ .vmem, ⟨3, _⟩ => ⟨S24576x1, .f32⟩
  | .local _ .vmem, ⟨4, _⟩ => ⟨S24576x4608, .fp8e4m3⟩
  | .local _ .vmem, ⟨5, _⟩ => ⟨S24576x7168, .fp8e4m3⟩
  | .local _ .vmem, ⟨6, _⟩ => ⟨S24576x1, .f32⟩
  | _, _ => ⟨S8x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Quant.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay8` …, after `k0_pay7`), so that
    `out0_W` and the values after it name it instead of spelling it out (`unfold_out out0_W` opens a canon
    with them, `unfold_payloads` opens them with the payloads); the comment after each is the printed function's
    name for the value (a count appended where that name is bound again). -/

def k0_pay8 (x0 : Vec F S256x7168 .bf16) : FVec F S256x1 .f32 :=
  k0_pay3 (View.ld x0 r0_0) -- `v5`
def k0_pay9 (x0 : Vec F S256x7168 .bf16) : FVec F S256x1 .f32 :=
  k0_pay4 (View.ld x0 r0_0) -- `v7`
def k0_pay10 (x0 : Vec F S256x7168 .bf16) : IVec S256x1 32 :=
  k0_pay5 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S256x7168 .bf16) : Vec F S256x7168 .fp8e4m3 :=
  View.canon [⟨r0_0, k0_pay1 (k0_pay2 (View.ld x0 r0_0)) (k0_pay6 (k0_pay8 x0) (k0_pay9 x0) (k0_pay10 x0)) 0#32⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST (Lib/Pipeline/FrameBody.lean `View.canon`; the payloads are the skeleton's and the values stated above). -/
def out0_2 (x0 : Vec F S256x7168 .bf16) : Vec F S256x1 .f32 :=
  View.canon [⟨r0_1, k0_pay7 (k0_pay8 x0) (k0_pay9 x0) (k0_pay10 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp (MT nD τ sig Unit (Elt F) ℕ (UR sig nD τ) ℕ)) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.Kernel.Body.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.VecWindow
public import Idealize.ShloMosaic.Lib.Pipeline.Value
public import Idealize.ShloMosaic.Lib.Pointwise.Index

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The second kernel's body: gate and up products, the row maximum, and the quantised hidden row

The body's run in its three cases: the first column tile of a row block, a middle one, and the last one.  -/

/-- The condition of the body's first branch: the first column tile of a row block. -/
abbrev cond1_0 (i : grid1.Coords) : Prop := (Scalar.cmpi .ne (Scalar.extui (Scalar.cmpi .eq (BitVec.ofNat 32 (i 1).val) 0#32)) 0#32) = 1#1
/-- The condition of the second branch: a later column tile. -/
abbrev cond1_1 (i : grid1.Coords) : Prop := (Scalar.cmpi .ne (Scalar.extui (Scalar.cmpi .sgt (BitVec.ofNat 32 (i 1).val) 0#32)) 0#32) = 1#1
/-- The condition of the third branch: the last column tile. -/
abbrev cond1_2 (i : grid1.Coords) : Prop := k1_cond3 i = 1#1

/-! ## What the last tile of a row block stores -/

/-- The row scales of the hidden block, from the running maximum. -/
def scaleOf (M : Vec F S1024x128 .f32) : Vec F S1024x1 .f32 :=
  k1_pay9 (k1_pay4 M) (k1_pay5 M) (k1_pay6 M) (k1_pay7 M) 23#32

/-- The inverse row scales of the hidden block, from the running maximum. -/
def invOf (M : Vec F S1024x128 .f32) : Vec F S1024x1 .f32 :=
  k1_pay11 (k1_pay10 (k1_pay4 M) (k1_pay5 M) (k1_pay6 M) (k1_pay7 M) 23#32) 4294967170#32 126#32

/-- Slab `k` of the stored tiles. -/
def slab (X : Vec F S18x1024x256 .f32) (k : Fin 18) : Vec F S1x1024x256 .f32 :=
  fun z => X (ix3 k (z 1) (z 2))

/-- The quantised hidden block, from the inverse row scales and the stored tiles: column `q` is column `q % 256` of
    tile `q / 256`. -/
def hqOf (inv : Vec F S1024x1 .f32) (X : Vec F S18x1024x256 .f32) : Vec F S1024x4608 .fp8e4m3 :=
  fun y => k1_pay16 inv (slab X ⟨(y 1).val / 256, Nat.div_lt_of_lt_mul (y 1).isLt⟩)
    (ix2 (y 0) ⟨(y 1).val % 256, Nat.mod_lt _ (by decide)⟩)

/-- Each of the eighteen stores agrees with it: tile `k` goes to the columns `256 k …`. -/
theorem hqOf_piece (inv : Vec F S1024x1 .f32) (X : Vec F S18x1024x256 .f32) (k : Fin 18) (o : ℕ) (ho : o = 256 * k.val)
    (inb : ∀ a, (![0, o] : Fin 2 → ℕ) a + S1024x256.size a ≤ S1024x4608.size a)
    (inb' : ∀ a, (![k.val, 0, 0] : Fin 3 → ℕ) a + S1x1024x256.size a ≤ S18x1024x256.size a) (x : S1024x256.Idx) :
    k1_pay16 inv (View.ld (Val := Elt F) (e' := .f32) X (Rect.unit (s := S18x1024x256) ![k.val, 0, 0] S1x1024x256.size inb')) x
      = hqOf inv X ((Rect.unit (s := S1024x4608) ![0, o] S1024x256.size inb).emb x) := by
  have hx1 : (x 1).val < 256 := (x 1).isLt
  have e0 : ((Rect.unit (s := S1024x4608) ![0, o] S1024x256.size inb).emb x 0) = x 0 := Fin.ext (by
    show 0 + 1 * (x 0).val = (x 0).val; omega)
  have e1 : (((Rect.unit (s := S1024x4608) ![0, o] S1024x256.size inb).emb x 1)).val = o + (x 1).val := by
    show o + 1 * (x 1).val = _; omega
  have hsl : (View.ld (Val := Elt F) (e' := .f32) X (Rect.unit (s := S18x1024x256) ![k.val, 0, 0] S1x1024x256.size inb'))
      = slab X k := by
    funext z
    refine congrArg X ?_
    funext a
    refine Fin.ext ?_
    have hz0 : (z 0).val = 0 := Nat.lt_one_iff.mp (z 0).isLt
    match a with
    | ⟨0, _⟩ => show k.val + 1 * (z 0).val = k.val; omega
    | ⟨1, _⟩ => show 0 + 1 * (z 1).val = (z 1).val; omega
    | ⟨2, _⟩ => show 0 + 1 * (z 2).val = (z 2).val; omega
  rw [hsl]
  unfold hqOf
  have hk : (⟨(((Rect.unit (s := S1024x4608) ![0, o] S1024x256.size inb).emb x 1)).val / 256, Nat.div_lt_of_lt_mul (((Rect.unit (s := S1024x4608) ![0, o] S1024x256.size inb).emb x 1)).isLt⟩ : Fin 18) = k :=
    Fin.ext (by show (((Rect.unit (s := S1024x4608) ![0, o] S1024x256.size inb).emb x 1)).val / 256 = k.val; rw [e1]; omega)
  have hm : (⟨(((Rect.unit (s := S1024x4608) ![0, o] S1024x256.size inb).emb x 1)).val % 256, Nat.mod_lt _ (by decide)⟩ : Fin 256) = x 1 :=
    Fin.ext (by show (((Rect.unit (s := S1024x4608) ![0, o] S1024x256.size inb).emb x 1)).val % 256 = (x 1).val; rw [e1]; omega)
  rw [hk, hm, e0]
  refine congrArg (k1_pay16 inv (slab X k)) ?_
  funext a
  match a with
  | ⟨0, _⟩ => rfl
  | ⟨1, _⟩ => rfl

set_option maxHeartbeats 4000000 in
/-- The body at the first column tile: the tile is stored in its slab and the maximum starts. -/
theorem runA (c : Dev nD) (i : grid1.Coords) (arg2 : Memref sig .tc .vmem S1024x7168 .fp8e4m3) (harg2 : arg2.IsWhole) (arg3 : Memref sig .tc .vmem S1024x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x4608 .fp8e4m3) (harg9 : arg9.IsWhole) (arg10 : Memref sig .tc .vmem S18x1024x256 .f32) (harg10 : arg10.IsWhole) (arg11 : Memref sig .tc .vmem S1024x128 .f32) (harg11 : arg11.IsWhole) (hc0 : cond1_0 i) (hc1 : ¬cond1_1 i) (hc2 : ¬cond1_2 i)
    (x0 : Vec F S1024x7168 .fp8e4m3) (x1 : Vec F S1024x1 .f32) (x2 : Vec F S7168x256 .fp8e4m3) (x3 : Vec F S7168x256 .fp8e4m3) (x4 : Vec F S1x256 .f32) (x5 : Vec F S1x256 .f32) (xs0 : Vec F S18x1024x256 .f32) (xs1 : Vec F S1024x128 .f32) (xi6 : Vec F S1024x1 .f32) (xi7 : Vec F S1024x4608 .fp8e4m3)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare (VecWindow.put xs0 (k1_off1 i) S1x1024x256.size (k1_pay31 x0 x1 x2 x3 x4 x5)) ∗ owns (c : Thread nD τ) arg11 fullShare (k1_pay33 x0 x1 x2 x3 x4 x5)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11) K := by
    simp only [cc1_gate_up_eq_skeleton]; unfold cc1_gate_up_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg8.eq_unread hf6; obtain rfl := harg9.eq_unread hf7
    sl_exec (disch := first | sl_exact hc0 | sl_exact hc1 | sl_exact hc2)
    sl_step
    have e0 : View.readAt (Elt F) arg2.view (Rect.unit (s := S1024x7168) ![0, 0] S1024x7168.size inb_S1024x7168_S1024x7168_0_0).toLoadRect (harg2.unread x0) = x0 :=
      (View.readAt_full _ _ _).trans (harg2.read_unread x0)
    have e1 : View.readAt (Elt F) arg3.view (Rect.unit (s := S1024x1) ![0, 0] S1024x1.size inb_S1024x1_S1024x1_0_0).toLoadRect (harg3.unread x1) = x1 :=
      (View.readAt_full _ _ _).trans (harg3.read_unread x1)
    have e2 : View.readAt (Elt F) arg4.view (Rect.unit (s := S7168x256) ![0, 0] S7168x256.size inb_S7168x256_S7168x256_0_0).toLoadRect (harg4.unread x2) = x2 :=
      (View.readAt_full _ _ _).trans (harg4.read_unread x2)
    have e3 : View.readAt (Elt F) arg5.view (Rect.unit (s := S7168x256) ![0, 0] S7168x256.size inb_S7168x256_S7168x256_0_0).toLoadRect (harg5.unread x3) = x3 :=
      (View.readAt_full _ _ _).trans (harg5.read_unread x3)
    have e4 : View.readAt (Elt F) arg6.view (Rect.unit (s := S1x256) ![0, 0] S1x256.size inb_S1x256_S1x256_0_0).toLoadRect (harg6.unread x4) = x4 :=
      (View.readAt_full _ _ _).trans (harg6.read_unread x4)
    have e5 : View.readAt (Elt F) arg7.view (Rect.unit (s := S1x256) ![0, 0] S1x256.size inb_S1x256_S1x256_0_0).toLoadRect (harg7.unread x5) = x5 :=
      (View.readAt_full _ _ _).trans (harg7.read_unread x5)
    have eM : View.readAt (Elt F) arg11.view (Rect.unit (s := S1024x128) ![0, 0] S1024x128.size inb_S1024x128_S1024x128_0_0).toLoadRect (harg11.unread xs1) = xs1 :=
      (View.readAt_full _ _ _).trans (harg11.read_unread xs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; swap; · iexact HS0
      ipureintro
      refine (View.read_writes_cons_put _ _ _ _ _ rfl).trans ?_
      rw [View.writes_nil, harg10.read_unread]
      exact congrArg (VecWindow.put xs0 (k1_off1 i) S1x1024x256.size) (by
        show k1_pay31 _ _ _ _ _ _ = _
        rw [e0, e1, e2, e3, e4, e5])
    iexists _; isplitr; swap; · iexact HS1
    ipureintro
    refine (View.read_writes_full _ _ _ _ _).trans ?_
    show k1_pay33 _ _ _ _ _ _ = _
    rw [e0, e1, e2, e3, e4, e5]

set_option maxHeartbeats 4000000 in
/-- The body at a middle column tile: the tile is stored in its slab and the maximum goes on. -/
theorem runB (c : Dev nD) (i : grid1.Coords) (arg2 : Memref sig .tc .vmem S1024x7168 .fp8e4m3) (harg2 : arg2.IsWhole) (arg3 : Memref sig .tc .vmem S1024x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x4608 .fp8e4m3) (harg9 : arg9.IsWhole) (arg10 : Memref sig .tc .vmem S18x1024x256 .f32) (harg10 : arg10.IsWhole) (arg11 : Memref sig .tc .vmem S1024x128 .f32) (harg11 : arg11.IsWhole) (hc0 : ¬cond1_0 i) (hc1 : cond1_1 i) (hc2 : ¬cond1_2 i)
    (x0 : Vec F S1024x7168 .fp8e4m3) (x1 : Vec F S1024x1 .f32) (x2 : Vec F S7168x256 .fp8e4m3) (x3 : Vec F S7168x256 .fp8e4m3) (x4 : Vec F S1x256 .f32) (x5 : Vec F S1x256 .f32) (xs0 : Vec F S18x1024x256 .f32) (xs1 : Vec F S1024x128 .f32) (xi6 : Vec F S1024x1 .f32) (xi7 : Vec F S1024x4608 .fp8e4m3)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare (VecWindow.put xs0 (k1_off1 i) S1x1024x256.size (k1_pay31 x0 x1 x2 x3 x4 x5)) ∗ owns (c : Thread nD τ) arg11 fullShare (k1_pay1 (k1_pay32 x0 x1 x2 x3 x4 x5) xs1)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11) K := by
    simp only [cc1_gate_up_eq_skeleton]; unfold cc1_gate_up_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg8.eq_unread hf6; obtain rfl := harg9.eq_unread hf7
    sl_exec (disch := first | sl_exact hc0 | sl_exact hc1 | sl_exact hc2)
    sl_step
    have e0 : View.readAt (Elt F) arg2.view (Rect.unit (s := S1024x7168) ![0, 0] S1024x7168.size inb_S1024x7168_S1024x7168_0_0).toLoadRect (harg2.unread x0) = x0 :=
      (View.readAt_full _ _ _).trans (harg2.read_unread x0)
    have e1 : View.readAt (Elt F) arg3.view (Rect.unit (s := S1024x1) ![0, 0] S1024x1.size inb_S1024x1_S1024x1_0_0).toLoadRect (harg3.unread x1) = x1 :=
      (View.readAt_full _ _ _).trans (harg3.read_unread x1)
    have e2 : View.readAt (Elt F) arg4.view (Rect.unit (s := S7168x256) ![0, 0] S7168x256.size inb_S7168x256_S7168x256_0_0).toLoadRect (harg4.unread x2) = x2 :=
      (View.readAt_full _ _ _).trans (harg4.read_unread x2)
    have e3 : View.readAt (Elt F) arg5.view (Rect.unit (s := S7168x256) ![0, 0] S7168x256.size inb_S7168x256_S7168x256_0_0).toLoadRect (harg5.unread x3) = x3 :=
      (View.readAt_full _ _ _).trans (harg5.read_unread x3)
    have e4 : View.readAt (Elt F) arg6.view (Rect.unit (s := S1x256) ![0, 0] S1x256.size inb_S1x256_S1x256_0_0).toLoadRect (harg6.unread x4) = x4 :=
      (View.readAt_full _ _ _).trans (harg6.read_unread x4)
    have e5 : View.readAt (Elt F) arg7.view (Rect.unit (s := S1x256) ![0, 0] S1x256.size inb_S1x256_S1x256_0_0).toLoadRect (harg7.unread x5) = x5 :=
      (View.readAt_full _ _ _).trans (harg7.read_unread x5)
    have eM : View.readAt (Elt F) arg11.view (Rect.unit (s := S1024x128) ![0, 0] S1024x128.size inb_S1024x128_S1024x128_0_0).toLoadRect (harg11.unread xs1) = xs1 :=
      (View.readAt_full _ _ _).trans (harg11.read_unread xs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; swap; · iexact HS0
      ipureintro
      refine (View.read_writes_cons_put _ _ _ _ _ rfl).trans ?_
      rw [View.writes_nil, harg10.read_unread]
      exact congrArg (VecWindow.put xs0 (k1_off1 i) S1x1024x256.size) (by
        show k1_pay31 _ _ _ _ _ _ = _
        rw [e0, e1, e2, e3, e4, e5])
    iexists _; isplitr; swap; · iexact HS1
    ipureintro
    refine (View.read_writes_full _ _ _ _ _).trans ?_
    show k1_pay1 (k1_pay32 _ _ _ _ _ _) _ = _
    rw [e0, e1, e2, e3, e4, e5, eM]

set_option maxHeartbeats 4000000 in
/-- The body at the last column tile: the tile is stored in its slab, the maximum is complete, and the row block is quantised. -/
theorem runC (c : Dev nD) (i : grid1.Coords) (arg2 : Memref sig .tc .vmem S1024x7168 .fp8e4m3) (harg2 : arg2.IsWhole) (arg3 : Memref sig .tc .vmem S1024x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x4608 .fp8e4m3) (harg9 : arg9.IsWhole) (arg10 : Memref sig .tc .vmem S18x1024x256 .f32) (harg10 : arg10.IsWhole) (arg11 : Memref sig .tc .vmem S1024x128 .f32) (harg11 : arg11.IsWhole) (hc0 : ¬cond1_0 i) (hc1 : cond1_1 i) (hc2 : cond1_2 i)
    (x0 : Vec F S1024x7168 .fp8e4m3) (x1 : Vec F S1024x1 .f32) (x2 : Vec F S7168x256 .fp8e4m3) (x3 : Vec F S7168x256 .fp8e4m3) (x4 : Vec F S1x256 .f32) (x5 : Vec F S1x256 .f32) (xs0 : Vec F S18x1024x256 .f32) (xs1 : Vec F S1024x128 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (scaleOf (k1_pay1 (k1_pay32 x0 x1 x2 x3 x4 x5) xs1)) ∗ owns (c : Thread nD τ) arg9 fullShare (hqOf (invOf (k1_pay1 (k1_pay32 x0 x1 x2 x3 x4 x5) xs1)) (VecWindow.put xs0 (k1_off1 i) S1x1024x256.size (k1_pay31 x0 x1 x2 x3 x4 x5))) ∗ owns (c : Thread nD τ) arg10 fullShare (VecWindow.put xs0 (k1_off1 i) S1x1024x256.size (k1_pay31 x0 x1 x2 x3 x4 x5)) ∗ owns (c : Thread nD τ) arg11 fullShare (k1_pay1 (k1_pay32 x0 x1 x2 x3 x4 x5) xs1)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11) K := by
    simp only [cc1_gate_up_eq_skeleton]; unfold cc1_gate_up_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2)
    sl_step
    have e0 : View.readAt (Elt F) arg2.view (Rect.unit (s := S1024x7168) ![0, 0] S1024x7168.size inb_S1024x7168_S1024x7168_0_0).toLoadRect (harg2.unread x0) = x0 :=
      (View.readAt_full _ _ _).trans (harg2.read_unread x0)
    have e1 : View.readAt (Elt F) arg3.view (Rect.unit (s := S1024x1) ![0, 0] S1024x1.size inb_S1024x1_S1024x1_0_0).toLoadRect (harg3.unread x1) = x1 :=
      (View.readAt_full _ _ _).trans (harg3.read_unread x1)
    have e2 : View.readAt (Elt F) arg4.view (Rect.unit (s := S7168x256) ![0, 0] S7168x256.size inb_S7168x256_S7168x256_0_0).toLoadRect (harg4.unread x2) = x2 :=
      (View.readAt_full _ _ _).trans (harg4.read_unread x2)
    have e3 : View.readAt (Elt F) arg5.view (Rect.unit (s := S7168x256) ![0, 0] S7168x256.size inb_S7168x256_S7168x256_0_0).toLoadRect (harg5.unread x3) = x3 :=
      (View.readAt_full _ _ _).trans (harg5.read_unread x3)
    have e4 : View.readAt (Elt F) arg6.view (Rect.unit (s := S1x256) ![0, 0] S1x256.size inb_S1x256_S1x256_0_0).toLoadRect (harg6.unread x4) = x4 :=
      (View.readAt_full _ _ _).trans (harg6.read_unread x4)
    have e5 : View.readAt (Elt F) arg7.view (Rect.unit (s := S1x256) ![0, 0] S1x256.size inb_S1x256_S1x256_0_0).toLoadRect (harg7.unread x5) = x5 :=
      (View.readAt_full _ _ _).trans (harg7.read_unread x5)
    have eM : View.readAt (Elt F) arg11.view (Rect.unit (s := S1024x128) ![0, 0] S1024x128.size inb_S1024x128_S1024x128_0_0).toLoadRect (harg11.unread xs1) = xs1 :=
      (View.readAt_full _ _ _).trans (harg11.read_unread xs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    have hv : runC.sl.v39 c arg2 harg2 arg3 harg3 arg4 harg4 arg5 harg5 arg6 harg6 arg7 harg7 arg11 harg11 x0 x1 x2 x3 x4 x5 xs1 = (k1_pay1 (k1_pay32 x0 x1 x2 x3 x4 x5) xs1) := by
      unfold runC.sl.v39
      refine (View.readCov_full (Val := Elt F) _ _ _ _ _).trans ?_
      show k1_pay1 (k1_pay32 _ _ _ _ _ _) _ = _
      rw [e0, e1, e2, e3, e4, e5, eM]
    have hinv : runC.sl.r_7 c arg2 harg2 arg3 harg3 arg4 harg4 arg5 harg5 arg6 harg6 arg7 harg7 arg11 harg11 x0 x1 x2 x3 x4 x5 xs1 = invOf (k1_pay1 (k1_pay32 x0 x1 x2 x3 x4 x5) xs1) := by
      show invOf (runC.sl.v39 c arg2 harg2 arg3 harg3 arg4 harg4 arg5 harg5 arg6 harg6 arg7 harg7 arg11 harg11 x0 x1 x2 x3 x4 x5 xs1) = _
      rw [hv]
    have hX : arg10.view.read (Elt F) (arg10.view.writes (Elt F) (harg10.unread xs0) (runC.sl.HS0_1 c i arg2 harg2 arg3 harg3 arg4 harg4 arg5 harg5 arg6 harg6 arg7 harg7 x0 x1 x2 x3 x4 x5)) = (VecWindow.put xs0 (k1_off1 i) S1x1024x256.size (k1_pay31 x0 x1 x2 x3 x4 x5)) := by
      refine (View.read_writes_cons_put _ _ _ _ _ rfl).trans ?_
      rw [View.writes_nil, harg10.read_unread]
      exact congrArg (VecWindow.put xs0 (k1_off1 i) S1x1024x256.size) (by
        show k1_pay31 _ _ _ _ _ _ = _
        rw [e0, e1, e2, e3, e4, e5])

    isplitl [H6]
    · iexists _; isplitr; swap; · iexact H6
      ipureintro
      refine (View.read_writes_full _ _ _ _ _).trans ?_
      show scaleOf (runC.sl.v39 c arg2 harg2 arg3 harg3 arg4 harg4 arg5 harg5 arg6 harg6 arg7 harg7 arg11 harg11 x0 x1 x2 x3 x4 x5 xs1) = _
      rw [hv]
    isplitl [H7]
    · iexists _; isplitr; swap; · iexact H7
      ipureintro
      rw [← hX, ← hinv]
      refine (View.read_writes_eq_canon (Val := Elt F) _ _ _ ?_).trans ?_
      · exact View.cover_of_tiledL (Val := Elt F) (s := S1024x4608) _ S1024x256.size (by sl_kernel_rfl)
      funext y
      refine View.canon_apply_of_pieces (Val := Elt F) _ _ ?_ y ?_
      swap; · exact View.cover_of_tiledL (Val := Elt F) (s := S1024x4608) _ S1024x256.size (by sl_kernel_rfl) y
      refine List.forall_mem_cons.mpr ⟨fun x => hqOf_piece _ _ 17 4352 rfl inb_S1024x4608_S1024x256_0_4352 inb_S18x1024x256_S1x1024x256_17_0_0 x, ?_⟩
      refine List.forall_mem_cons.mpr ⟨fun x => hqOf_piece _ _ 16 4096 rfl inb_S1024x4608_S1024x256_0_4096 inb_S18x1024x256_S1x1024x256_16_0_0 x, ?_⟩
      refine List.forall_mem_cons.mpr ⟨fun x => hqOf_piece _ _ 15 3840 rfl inb_S1024x4608_S1024x256_0_3840 inb_S18x1024x256_S1x1024x256_15_0_0 x, ?_⟩
      refine List.forall_mem_cons.mpr ⟨fun x => hqOf_piece _ _ 14 3584 rfl inb_S1024x4608_S1024x256_0_3584 inb_S18x1024x256_S1x1024x256_14_0_0 x, ?_⟩
      refine List.forall_mem_cons.mpr ⟨fun x => hqOf_piece _ _ 13 3328 rfl inb_S1024x4608_S1024x256_0_3328 inb_S18x1024x256_S1x1024x256_13_0_0 x, ?_⟩
      refine List.forall_mem_cons.mpr ⟨fun x => hqOf_piece _ _ 12 3072 rfl inb_S1024x4608_S1024x256_0_3072 inb_S18x1024x256_S1x1024x256_12_0_0 x, ?_⟩
      refine List.forall_mem_cons.mpr ⟨fun x => hqOf_piece _ _ 11 2816 rfl inb_S1024x4608_S1024x256_0_2816 inb_S18x1024x256_S1x1024x256_11_0_0 x, ?_⟩
      refine List.forall_mem_cons.mpr ⟨fun x => hqOf_piece _ _ 10 2560 rfl inb_S1024x4608_S1024x256_0_2560 inb_S18x1024x256_S1x1024x256_10_0_0 x, ?_⟩
      refine List.forall_mem_cons.mpr ⟨fun x => hqOf_piece _ _ 9 2304 rfl inb_S1024x4608_S1024x256_0_2304 inb_S18x1024x256_S1x1024x256_9_0_0 x, ?_⟩
      refine List.forall_mem_cons.mpr ⟨fun x => hqOf_piece _ _ 8 2048 rfl inb_S1024x4608_S1024x256_0_2048 inb_S18x1024x256_S1x1024x256_8_0_0 x, ?_⟩
      refine List.forall_mem_cons.mpr ⟨fun x => hqOf_piece _ _ 7 1792 rfl inb_S1024x4608_S1024x256_0_1792 inb_S18x1024x256_S1x1024x256_7_0_0 x, ?_⟩
      refine List.forall_mem_cons.mpr ⟨fun x => hqOf_piece _ _ 6 1536 rfl inb_S1024x4608_S1024x256_0_1536 inb_S18x1024x256_S1x1024x256_6_0_0 x, ?_⟩
      refine List.forall_mem_cons.mpr ⟨fun x => hqOf_piece _ _ 5 1280 rfl inb_S1024x4608_S1024x256_0_1280 inb_S18x1024x256_S1x1024x256_5_0_0 x, ?_⟩
      refine List.forall_mem_cons.mpr ⟨fun x => hqOf_piece _ _ 4 1024 rfl inb_S1024x4608_S1024x256_0_1024 inb_S18x1024x256_S1x1024x256_4_0_0 x, ?_⟩
      refine List.forall_mem_cons.mpr ⟨fun x => hqOf_piece _ _ 3 768 rfl inb_S1024x4608_S1024x256_0_768 inb_S18x1024x256_S1x1024x256_3_0_0 x, ?_⟩
      refine List.forall_mem_cons.mpr ⟨fun x => hqOf_piece _ _ 2 512 rfl inb_S1024x4608_S1024x256_0_512 inb_S18x1024x256_S1x1024x256_2_0_0 x, ?_⟩
      refine List.forall_mem_cons.mpr ⟨fun x => hqOf_piece _ _ 1 256 rfl inb_S1024x4608_S1024x256_0_256 inb_S18x1024x256_S1x1024x256_1_0_0 x, ?_⟩
      refine List.forall_mem_cons.mpr ⟨fun x => hqOf_piece _ _ 0 0 rfl inb_S1024x4608_S1024x256_0_0 inb_S18x1024x256_S1x1024x256_0_0_0 x, ?_⟩
      exact fun _ h => absurd h List.not_mem_nil
    isplitl [HS0]
    · iexists _; isplitr; swap; · iexact HS0
      ipureintro; exact hX
    iexists _; isplitr; swap; · iexact HS1
    ipureintro
    refine (View.read_writes_full _ _ _ _ _).trans ?_
    show k1_pay1 (k1_pay32 _ _ _ _ _ _) _ = _
    rw [e0, e1, e2, e3, e4, e5, eM]

end Cert.Kernel.Hand

end
-- ==== Proof.Kernel.Gate.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.Body

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
/-! # REGION 1 of @main: custom_call 1, `cc1_gate_up` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, for any proof data over these arrays that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, for any proof data over these arrays that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, for any proof data over these arrays that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's buffer holds its block at every point, for any proof data over these arrays that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's buffer holds its block at every point, for any proof data over these arrays that leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's buffer holds its block at every point, for any proof data over these arrays that leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, by the point -/

theorem hcond1_0 : ∀ t : Fin cfg1.N, cond1_0 (grid1.coords t) ↔ t.val % 18 = 0 :=
  (fun t => by
    have ht : t.val < 432 := Nat.lt_of_lt_of_eq t.isLt N_1
    have e0 : (grid1.coords t 0).val = t.val / 18 % 24 := Pipeline.Grid.coords_val t 0 (by decide) rfl
    have e1 : (grid1.coords t 1).val = t.val / 1 % 18 := Pipeline.Grid.coords_val t 1 (by decide) rfl
    simp only [cond1_0, e0, e1]
    word_cmp
   : ∀ t : Fin grid1.N, cond1_0 (grid1.coords t) ↔ t.val % 18 = 0)
theorem hcond1_1 : ∀ t : Fin cfg1.N, cond1_1 (grid1.coords t) ↔ 1 ≤ t.val % 18 :=
  (by decide +kernel : ∀ t : Fin grid1.N, cond1_1 (grid1.coords t) ↔ 1 ≤ t.val % 18)
theorem hcond1_2 : ∀ t : Fin cfg1.N, cond1_2 (grid1.coords t) ↔ t.val % 18 = 17 :=
  (fun t => by
    have ht : t.val < 432 := Nat.lt_of_lt_of_eq t.isLt N_1
    have e0 : (grid1.coords t 0).val = t.val / 18 % 24 := Pipeline.Grid.coords_val t 0 (by decide) rfl
    have e1 : (grid1.coords t 1).val = t.val / 1 % 18 := Pipeline.Grid.coords_val t 1 (by decide) rfl
    simp only [cond1_2, k1_cond3, e0, e1]
    word_cmp
   : ∀ t : Fin grid1.N, cond1_2 (grid1.coords t) ↔ t.val % 18 = 17)
/-- Where the point's tile is stored. -/
theorem off1_at (t : Fin cfg1.N) : k1_off1 (grid1.coords t) = ![t.val % 18, 0, 0] := by
  have e1 : (grid1.coords t 1).val = t.val / 1 % 18 := Pipeline.Grid.coords_val t 1 (by decide) rfl
  rw [k1_off1_eq, e1, Nat.div_one]

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem idleAt1_6_A : ∀ t : Fin cfg1.N, ¬cond1_2 (grid1.coords t) → cfg1.idle 6 (grid1.coords t) = true := by decide +kernel
theorem noFlush1_6_A : ∀ t : Fin cfg1.N, ¬cond1_2 (grid1.coords t) → (cfg1.win 6).flush t = false := by decide +kernel
theorem liveAt1_6_B : ∀ t : Fin cfg1.N, cond1_2 (grid1.coords t) → cfg1.idle 6 (grid1.coords t) = false := by decide +kernel
theorem idleAt1_7_A : ∀ t : Fin cfg1.N, ¬cond1_2 (grid1.coords t) → cfg1.idle 7 (grid1.coords t) = true := by decide +kernel
theorem noFlush1_7_A : ∀ t : Fin cfg1.N, ¬cond1_2 (grid1.coords t) → (cfg1.win 7).flush t = false := by decide +kernel
theorem liveAt1_7_B : ∀ t : Fin cfg1.N, cond1_2 (grid1.coords t) → cfg1.idle 7 (grid1.coords t) = false := by decide +kernel

/-! ## The operands -/

abbrev ms1_0 (t : Fin cfg1.N) : Memref sig .tc .vmem S1024x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7168x256 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x4608 .fp8e4m3 := win1_7.stage (cfg1.slots t 7)
abbrev hs1_7 (t : Fin cfg1.N) : (ms1_7 t).IsWhole := hstage1_7 ((cfg1.slots t 7).cast nbuf1_7)
abbrev scM1_0 : Memref sig .tc .vmem S18x1024x256 .f32 := Memref.whole cc1_scratch0
abbrev scM1_1 : Memref sig .tc .vmem S1024x128 .f32 := Memref.whole cc1_scratch1

/-- The class invariant with the two scratch buffers as memrefs. -/
theorem PhiA1_eq (c : Dev nD) :
    (Pipeline.ΦA spec1 c : sProp (MT nD τ sig Unit (Elt F) ℕ (UR sig nD τ) ℕ))
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## What the scratch buffers hold -/

/-- The tile point `t` computes. -/
def tileAt (c : Dev nD) (t : Fin cfg1.N) : Vec F S1x1024x256 .f32 := k1_pay31 (iblk1 V c 0 t) (iblk1 V c 1 t) (iblk1 V c 2 t) (iblk1 V c 3 t) (iblk1 V c 4 t) (iblk1 V c 5 t)

/-- The running lane maximum after point `n`, restarted at each row block's first tile. -/
def rmAt (c : Dev nD) : (n : ℕ) → n < cfg1.N → Vec F S1024x128 .f32
  | 0, hn => k1_pay33 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn => if (n + 1) % 18 = 0 then k1_pay33 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
      else k1_pay1 (k1_pay32 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)) (rmAt c n (Nat.lt_of_succ_lt hn))

theorem rmAt_first (c : Dev nD) (t : Fin cfg1.N) (h : t.val % 18 = 0) : rmAt V c t.val t.isLt = k1_pay33 (iblk1 V c 0 t) (iblk1 V c 1 t) (iblk1 V c 2 t) (iblk1 V c 3 t) (iblk1 V c 4 t) (iblk1 V c 5 t) := by
  obtain ⟨n, hn⟩ := t
  cases n with
  | zero => rfl
  | succ n => exact if_pos h
theorem rmAt_step (c : Dev nD) (t : Fin cfg1.N) (h : t.val % 18 ≠ 0) (h' : t.val - 1 < cfg1.N) :
    rmAt V c t.val t.isLt = k1_pay1 (k1_pay32 (iblk1 V c 0 t) (iblk1 V c 1 t) (iblk1 V c 2 t) (iblk1 V c 3 t) (iblk1 V c 4 t) (iblk1 V c 5 t)) (rmAt V c (t.val - 1) h') := by
  obtain ⟨n, hn⟩ := t
  cases n with
  | zero => exact absurd rfl h
  | succ n => exact if_neg h

/-- Before point `n` the tile store holds the tiles of the row block computed so far. -/
def Inv10 (c : Dev nD) (n : ℕ) (X : Vec F S18x1024x256 .f32) : Prop :=
  ∀ t' : Fin cfg1.N, t'.val / 18 = n / 18 → t'.val < n → slab X ⟨t'.val % 18, Nat.mod_lt _ (by decide)⟩ = tileAt V c t'
/-- Before point `n`, not a row block's first, the maximum buffer holds the running maximum. -/
def Inv11 (c : Dev nD) (n : ℕ) (X : Vec F S1024x128 .f32) : Prop :=
  ∀ h : n - 1 < cfg1.N, n % 18 ≠ 0 → X = rmAt V c (n - 1) h

theorem slab_put_same (X : Vec F S18x1024x256 .f32) (w : Vec F S1x1024x256 .f32) (off : Fin 3 → ℕ) (k : Fin 18) (h : off = ![k.val, 0, 0]) :
    slab (VecWindow.put X off S1x1024x256.size w) k = w := by
  subst h
  funext z
  have h0 : (z 0).val < 1 := (z 0).isLt
  have h1 : (z 1).val < 1024 := (z 1).isLt
  have h2 : (z 2).val < 256 := (z 2).isLt
  unfold slab VecWindow.put
  rw [dif_pos]
  · refine congrArg w (funext fun a => Fin.ext ?_)
    match a with
    | ⟨0, _⟩ => show k.val - k.val = (z 0).val; omega
    | ⟨1, _⟩ => show (z 1).val - 0 = (z 1).val; omega
    | ⟨2, _⟩ => show (z 2).val - 0 = (z 2).val; omega
  · intro a
    match a with
    | ⟨0, _⟩ => show k.val ≤ k.val ∧ k.val < k.val + 1; omega
    | ⟨1, _⟩ => show 0 ≤ (z 1).val ∧ (z 1).val < 0 + 1024; omega
    | ⟨2, _⟩ => show 0 ≤ (z 2).val ∧ (z 2).val < 0 + 256; omega

theorem slab_put_ne (X : Vec F S18x1024x256 .f32) (w : Vec F S1x1024x256 .f32) (off : Fin 3 → ℕ) (k : Fin 18) (j : ℕ) (h : off = ![j, 0, 0]) (hj : k.val ≠ j) :
    slab (VecWindow.put X off S1x1024x256.size w) k = slab X k := by
  subst h
  funext z
  unfold slab VecWindow.put
  rw [dif_neg]
  intro hall
  have h0 : j ≤ k.val ∧ k.val < j + 1 := hall 0
  omega

/-- After the point's tile is stored the row block's tiles up to it are there. -/
theorem put_slab (c : Dev nD) (t : Fin cfg1.N) (X : Vec F S18x1024x256 .f32) (h : Inv10 V c t.val X) (t' : Fin cfg1.N)
    (hb : t'.val / 18 = t.val / 18) (hle : t'.val ≤ t.val) :
    slab (VecWindow.put X (k1_off1 (grid1.coords t)) S1x1024x256.size (tileAt V c t)) ⟨t'.val % 18, Nat.mod_lt _ (by decide)⟩ = tileAt V c t' := by
  by_cases e : t' = t
  · subst e; exact slab_put_same X _ _ _ (off1_at t')
  · have hne : t'.val ≠ t.val := fun h => e (Fin.ext h)
    exact (slab_put_ne X _ _ _ (t.val % 18) (off1_at t) (by show t'.val % 18 ≠ t.val % 18; omega)).trans (h t' hb (by omega))

theorem Inv10_next (c : Dev nD) (t : Fin cfg1.N) (X : Vec F S18x1024x256 .f32) (h : Inv10 V c t.val X) :
    Inv10 V c (t.val + 1) (VecWindow.put X (k1_off1 (grid1.coords t)) S1x1024x256.size (tileAt V c t)) :=
  fun t' hb hlt => put_slab V c t X h t' (by omega) (by omega)
theorem Inv11_next (c : Dev nD) (t : Fin cfg1.N) : Inv11 V c (t.val + 1) (rmAt V c t.val t.isLt) := fun _ _ => rfl

/-- The row scales written back at a row block's last tile. -/
def scaleAt (c : Dev nD) (t : Fin cfg1.N) : Vec F S1024x1 .f32 := scaleOf (rmAt V c t.val t.isLt)
/-- The tile of `t`'s row block that holds column `y 1`. -/
def tileOf (t : Fin cfg1.N) (y : S1024x4608.Idx) : Fin cfg1.N :=
  ⟨18 * (t.val / 18) + (y 1).val / 256, by
    have h : t.val < 432 := Nat.lt_of_lt_of_eq t.isLt N_1
    have hy : (y 1).val < 4608 := (y 1).isLt
    exact Nat.lt_of_lt_of_eq (by omega) N_1.symm⟩
/-- The quantised hidden block written back at a row block's last tile. -/
def hqAt (c : Dev nD) (t : Fin cfg1.N) : Vec F S1024x4608 .fp8e4m3 := fun y =>
  k1_pay16 (invOf (rmAt V c t.val t.isLt)) (tileAt V c (tileOf t y)) (ix2 (y 0) ⟨(y 1).val % 256, Nat.mod_lt _ (by decide)⟩)

theorem hqOf_eq (c : Dev nD) (t : Fin cfg1.N) (ht : t.val % 18 = 17) (X : Vec F S18x1024x256 .f32) (h : Inv10 V c t.val X) :
    hqOf (invOf (rmAt V c t.val t.isLt)) (VecWindow.put X (k1_off1 (grid1.coords t)) S1x1024x256.size (tileAt V c t)) = hqAt V c t := by
  funext y
  have hy : (y 1).val < 4608 := (y 1).isLt
  have e := put_slab V c t X h (tileOf t y) (by show (18 * (t.val / 18) + (y 1).val / 256) / 18 = _; omega) (by show 18 * (t.val / 18) + (y 1).val / 256 ≤ _; omega)
  have ek : (⟨(tileOf t y).val % 18, Nat.mod_lt _ (by decide)⟩ : Fin 18) = ⟨(y 1).val / 256, Nat.div_lt_of_lt_mul (y 1).isLt⟩ :=
    Fin.ext (by show (18 * (t.val / 18) + (y 1).val / 256) % 18 = (y 1).val / 256; omega)
  rw [ek] at e
  unfold hqOf hqAt
  rw [e]

/-! ## The invariant -/

/-- What this region never touches: the other region's staging buffers. -/
abbrev HRest (c : Dev nD) : sProp (MT nD τ sig Unit (Elt F) ℕ (UR sig nD τ) ℕ) :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))
/-- The invariant before point `n`. -/
def Φ1 (c : Dev nD) (n : ℕ) : sProp (MT nD τ sig Unit (Elt F) ℕ (UR sig nD τ) ℕ) :=
  iprop((HRest c ∗ (∃ X, ⌜Inv10 V c n X⌝ ∗ owns (c : Thread nD τ) scM1_0 fullShare X)
      ∗ (∃ X, ⌜Inv11 V c n X⌝ ∗ owns (c : Thread nD τ) scM1_1 fullShare X)) ∗ ∃ r, prngReg c r)

/-- It holds at the launch. -/
theorem Φ1_enter (c : Dev nD) : (Pipeline.ΦA spec1 c : sProp (MT nD τ sig Unit (Elt F) ℕ (UR sig nD τ) ℕ)) ⊢ Φ1 V c 0 := by
  rw [PhiA1_eq]; unfold Φ1 HRest
  iintro ⟨⟨HR0, HR1, HR2, HR3, HR4, HR5, ⟨%X0, HS0⟩, ⟨%X1, HS1⟩⟩, Hg⟩
  isplitr [Hg]
  · isplitl [HR0 HR1 HR2 HR3 HR4 HR5]
    · isplitl [HR0]; · iexact HR0
      isplitl [HR1]; · iexact HR1
      isplitl [HR2]; · iexact HR2
      isplitl [HR3]; · iexact HR3
      isplitl [HR4]; · iexact HR4
      iexact HR5
    isplitl [HS0]
    · iexists X0; isplitr; · ipureintro; exact fun _ _ h => absurd h (Nat.not_lt_zero _)
      iexact HS0
    iexists X1; isplitr; · ipureintro; exact fun _ h => absurd rfl h
    iexact HS1
  iexact Hg
/-- It gives the class invariant back at any point. -/
theorem Φ1_leave (c : Dev nD) (n : ℕ) : Φ1 V c n ⊢ (Pipeline.ΦA spec1 c : sProp (MT nD τ sig Unit (Elt F) ℕ (UR sig nD τ) ℕ)) := by
  rw [PhiA1_eq]; unfold Φ1 HRest
  iintro ⟨⟨⟨HR0, HR1, HR2, HR3, HR4, HR5⟩, ⟨%X0, -, HS0⟩, ⟨%X1, -, HS1⟩⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists X0; iexact HS0
    iexists X1; iexact HS1
  iexact Hg

/-! ## The pipeline's proof data -/

/-- The proof data: the arrays as the region finds them, each input left at its block, the outputs at the row scales and
    the quantised block, the invariant above, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => scaleAt V c t
    | ⟨7, _⟩ => hqAt V c t
  Φ t := Φ1 V c t.val
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = scaleAt V c t := by dsimp only [dat1]
theorem after1_7 (c : Dev nD) (t : Fin cfg1.N) : (dat1 V c).after 7 t = hqAt V c t := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)
set_option maxHeartbeats 1600000 in
/-- The body at any point: by the point's case, the run of that case from the invariant's scratch contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Φ1 V c (t.val + 1) from rfl, show (dat1 V c).Φ t.castSucc = Φ1 V c t.val from rfl,
    show (dat1 V c).owesAt () t.succ = (dat1 V c).owesAt () t.castSucc from rfl]
  have hN : t.val < 432 := lt_of_lt_of_eq t.isLt (show cfg1.N = 432 from N_1)
  have hN' : cfg1.N = 432 := N_1
  have hM := Inv11_next V c t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  unfold Φ1
  iintro ⟨⟨⟨HR, ⟨%X0, %hX0, HS0⟩, ⟨%X1, %hX1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 18 = 0
  · have hc2 := (show ¬cond1_2 (grid1.coords t) from (fun h => by have := (hcond1_2 t).mp h; omega))
    rw [Dat.leavesExact_idle (dat1 V c) 6 t (idleAt1_6_A t hc2) (noFlush1_6_A t hc2)]
    rw [Dat.leavesExact_idle (dat1 V c) 7 t (idleAt1_7_A t hc2) (noFlush1_7_A t hc2)]
    rw [rmAt_first V c t h0] at hM
    iapply (runA c (grid1.coords t) _ _ _ _ _ _ _ _ _ _ _ _ _ _ _ _ _ _ _ _ ((hcond1_0 t).mpr h0) (fun h => by have := (hcond1_1 t).mp h; omega) hc2 (iblk1 V c 0 t) (iblk1 V c 1 t) (iblk1 V c 2 t) (iblk1 V c 3 t) (iblk1 V c 4 t) (iblk1 V c 5 t) X0 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HR HS0 HS1 Hg]
    · isplitl [HR HS0 HS1]
      · isplitl [HR]; · iexact HR
        isplitl [HS0]
        · iexists _; isplitr; swap; · iexact HS0
          ipureintro; exact Inv10_next V c t X0 hX0
        iexists _; isplitr; swap; · iexact HS1
        ipureintro; exact hM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h2 : t.val % 18 = 17
  · have hc2 := (hcond1_2 t).mpr h2
    rw [show (dat1 V c).leavesExact 6 t = owns (c : Thread nD τ) (ms1_6 t) fullShare ((dat1 V c).after 6 t) from by
      unfold Dat.leavesExact; rw [liveAt1_6_B t hc2], after1_6]
    rw [show (dat1 V c).leavesExact 7 t = owns (c : Thread nD τ) (ms1_7 t) fullShare ((dat1 V c).after 7 t) from by
      unfold Dat.leavesExact; rw [liveAt1_7_B t hc2], after1_7]
    rw [← hqOf_eq V c t h2 X0 hX0]; unfold scaleAt
    rw [rmAt_step V c t h0 (by omega)] at hM ⊢; obtain rfl := hX1 (by omega) h0
    iapply (runC c (grid1.coords t) _ _ _ _ _ _ _ _ _ _ _ _ _ _ _ _ _ _ _ _ (fun h => h0 ((hcond1_0 t).mp h)) ((hcond1_1 t).mpr (by omega)) hc2 (iblk1 V c 0 t) (iblk1 V c 1 t) (iblk1 V c 2 t) (iblk1 V c 3 t) (iblk1 V c 4 t) (iblk1 V c 5 t) X0 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HR HS0 HS1 Hg]
    · isplitl [HR HS0 HS1]
      · isplitl [HR]; · iexact HR
        isplitl [HS0]
        · iexists _; isplitr; swap; · iexact HS0
          ipureintro; exact Inv10_next V c t X0 hX0
        iexists _; isplitr; swap; · iexact HS1
        ipureintro; exact hM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc2 := (show ¬cond1_2 (grid1.coords t) from (fun h => h2 ((hcond1_2 t).mp h)))
    rw [Dat.leavesExact_idle (dat1 V c) 6 t (idleAt1_6_A t hc2) (noFlush1_6_A t hc2)]
    rw [Dat.leavesExact_idle (dat1 V c) 7 t (idleAt1_7_A t hc2) (noFlush1_7_A t hc2)]
    rw [rmAt_step V c t h0 (by omega)] at hM; obtain rfl := hX1 (by omega) h0
    iapply (runB c (grid1.coords t) _ _ _ _ _ _ _ _ _ _ _ _ _ _ _ _ _ _ _ _ (fun h => h0 ((hcond1_0 t).mp h)) ((hcond1_1 t).mpr (by omega)) hc2 (iblk1 V c 0 t) (iblk1 V c 1 t) (iblk1 V c 2 t) (iblk1 V c 3 t) (iblk1 V c 4 t) (iblk1 V c 5 t) X0 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HR HS0 HS1 Hg]
    · isplitl [HR HS0 HS1]
      · isplitl [HR]; · iexact HR
        isplitl [HS0]
        · iexists _; isplitr; swap; · iexact HS0
          ipureintro; exact Inv10_next V c t X0 hX0
        iexists _; isplitr; swap; · iexact HS1
        ipureintro; exact hM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.Kernel.Run.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.StableHlo.RunHlo
public import proofs.«01_k».proof.Proof.Kernel.Quant
public import proofs.«01_k».proof.Proof.Kernel.Gate

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp (MT nD τ sig Unit (Elt F) ℕ (UR sig nD τ) ℕ) := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl]
    refine .trans ?_ (Φ1_enter (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = Φ1 (V3 m ρ) c cfg1.N from rfl]
    refine .trans (Φ1_leave (V3 m ρ) c cfg1.N) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every execution ends, nothing faulting, every unscoped buffer at the last
    boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- What the run leaves in one unscoped buffer. -/
theorem run_read {r : PUnit × MemSt nD τ sig (Elt F)} {c : Dev nD} (h : ∀ b ∈ Pipeline.ucRefs τ sig, r.2.mem (((c : Thread nD τ)).1, b) = W5 m ρ c b)
    (b : Ref sig .tc) (hb : ¬ (Proc.devRef .tc b : DevRef τ sig).isScoped) :
    r.2.mem ((c.tc : Thread nD τ).loc b) = W5 m ρ c (Proc.devRef .tc b) := h _ (mem_uc b hb)

/-- The frame claim: the run, read at the arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun r h => ⟨fun c =>
    ⟨(run_read m ρ (h.1 c) main_arg0 (by decide)).trans (W5_main_arg0 m ρ c),
     (run_read m ρ (h.1 c) main_arg1 (by decide)).trans (W5_main_arg1 m ρ c),
     (run_read m ρ (h.1 c) main_arg2 (by decide)).trans (W5_main_arg2 m ρ c)⟩, h.2⟩

end Cert.Kernel.Hand

end
-- ==== Proof.KernelIdeal.Quant.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay8` …, after `k0_pay7`), so that
    `out0_W` and the values after it name it instead of spelling it out (`unfold_out out0_W` opens a canon
    with them, `unfold_payloads` opens them with the payloads); the comment after each is the printed function's
    name for the value (a count appended where that name is bound again). -/

def k0_pay8 (x0 : Vec F S256x7168 .bf16) : FVec F S256x1 .f32 :=
  k0_pay3 (View.ld x0 r0_0) -- `v5`
def k0_pay9 (x0 : Vec F S256x7168 .bf16) : FVec F S256x1 .f32 :=
  k0_pay4 (View.ld x0 r0_0) -- `v7`
def k0_pay10 (x0 : Vec F S256x7168 .bf16) : IVec S256x1 32 :=
  k0_pay5 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S256x7168 .bf16) : Vec F S256x7168 .fp8e4m3 :=
  View.canon [⟨r0_0, k0_pay1 (k0_pay2 (View.ld x0 r0_0)) (k0_pay6 (k0_pay8 x0) (k0_pay9 x0) (k0_pay10 x0)) 0#32⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST (Lib/Pipeline/FrameBody.lean `View.canon`; the payloads are the skeleton's and the values stated above). -/
def out0_2 (x0 : Vec F S256x7168 .bf16) : Vec F S256x1 .f32 :=
  View.canon [⟨r0_1, k0_pay7 (k0_pay8 x0) (k0_pay9 x0) (k0_pay10 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp (MT nD τ sig Unit (Elt F) ℕ (UR sig nD τ) ℕ)) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.VecWindow
public import Idealize.ShloMosaic.Lib.Pipeline.Value
public import Idealize.ShloMosaic.Lib.Pointwise.Index

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The second kernel's body: gate and up products, the row maximum, and the quantised hidden row

The body's run in its three cases: the first column tile of a row block, a middle one, and the last one.  -/

/-- The condition of the body's first branch: the first column tile of a row block. -/
abbrev cond1_0 (i : grid1.Coords) : Prop := (Scalar.cmpi .ne (Scalar.extui (Scalar.cmpi .eq (BitVec.ofNat 32 (i 1).val) 0#32)) 0#32) = 1#1
/-- The condition of the second branch: a later column tile. -/
abbrev cond1_1 (i : grid1.Coords) : Prop := (Scalar.cmpi .ne (Scalar.extui (Scalar.cmpi .sgt (BitVec.ofNat 32 (i 1).val) 0#32)) 0#32) = 1#1
/-- The condition of the third branch: the last column tile. -/
abbrev cond1_2 (i : grid1.Coords) : Prop := k1_cond3 i = 1#1

/-! ## What the last tile of a row block stores -/

/-- The row scales of the hidden block, from the running maximum. -/
def scaleOf (M : Vec F S1024x128 .f32) : Vec F S1024x1 .f32 :=
  k1_pay9 (k1_pay4 M) (k1_pay5 M) (k1_pay6 M) (k1_pay7 M) 23#32

/-- The inverse row scales of the hidden block, from the running maximum. -/
def invOf (M : Vec F S1024x128 .f32) : Vec F S1024x1 .f32 :=
  k1_pay11 (k1_pay10 (k1_pay4 M) (k1_pay5 M) (k1_pay6 M) (k1_pay7 M) 23#32) 4294967170#32 126#32

/-- Slab `k` of the stored tiles. -/
def slab (X : Vec F S18x1024x256 .f32) (k : Fin 18) : Vec F S1x1024x256 .f32 :=
  fun z => X (ix3 k (z 1) (z 2))

/-- The quantised hidden block, from the inverse row scales and the stored tiles: column `q` is column `q % 256` of
    tile `q / 256`. -/
def hqOf (inv : Vec F S1024x1 .f32) (X : Vec F S18x1024x256 .f32) : Vec F S1024x4608 .fp8e4m3 :=
  fun y => k1_pay16 inv (slab X ⟨(y 1).val / 256, Nat.div_lt_of_lt_mul (y 1).isLt⟩)
    (ix2 (y 0) ⟨(y 1).val % 256, Nat.mod_lt _ (by decide)⟩)

/-- Each of the eighteen stores agrees with it: tile `k` goes to the columns `256 k …`. -/
theorem hqOf_piece (inv : Vec F S1024x1 .f32) (X : Vec F S18x1024x256 .f32) (k : Fin 18) (o : ℕ) (ho : o = 256 * k.val)
    (inb : ∀ a, (![0, o] : Fin 2 → ℕ) a + S1024x256.size a ≤ S1024x4608.size a)
    (inb' : ∀ a, (![k.val, 0, 0] : Fin 3 → ℕ) a + S1x1024x256.size a ≤ S18x1024x256.size a) (x : S1024x256.Idx) :
    k1_pay16 inv (View.ld (Val := Elt F) (e' := .f32) X (Rect.unit (s := S18x1024x256) ![k.val, 0, 0] S1x1024x256.size inb')) x
      = hqOf inv X ((Rect.unit (s := S1024x4608) ![0, o] S1024x256.size inb).emb x) := by
  have hx1 : (x 1).val < 256 := (x 1).isLt
  have e0 : ((Rect.unit (s := S1024x4608) ![0, o] S1024x256.size inb).emb x 0) = x 0 := Fin.ext (by
    show 0 + 1 * (x 0).val = (x 0).val; omega)
  have e1 : (((Rect.unit (s := S1024x4608) ![0, o] S1024x256.size inb).emb x 1)).val = o + (x 1).val := by
    show o + 1 * (x 1).val = _; omega
  have hsl : (View.ld (Val := Elt F) (e' := .f32) X (Rect.unit (s := S18x1024x256) ![k.val, 0, 0] S1x1024x256.size inb'))
      = slab X k := by
    funext z
    refine congrArg X ?_
    funext a
    refine Fin.ext ?_
    have hz0 : (z 0).val = 0 := Nat.lt_one_iff.mp (z 0).isLt
    match a with
    | ⟨0, _⟩ => show k.val + 1 * (z 0).val = k.val; omega
    | ⟨1, _⟩ => show 0 + 1 * (z 1).val = (z 1).val; omega
    | ⟨2, _⟩ => show 0 + 1 * (z 2).val = (z 2).val; omega
  rw [hsl]
  unfold hqOf
  have hk : (⟨(((Rect.unit (s := S1024x4608) ![0, o] S1024x256.size inb).emb x 1)).val / 256, Nat.div_lt_of_lt_mul (((Rect.unit (s := S1024x4608) ![0, o] S1024x256.size inb).emb x 1)).isLt⟩ : Fin 18) = k :=
    Fin.ext (by show (((Rect.unit (s := S1024x4608) ![0, o] S1024x256.size inb).emb x 1)).val / 256 = k.val; rw [e1]; omega)
  have hm : (⟨(((Rect.unit (s := S1024x4608) ![0, o] S1024x256.size inb).emb x 1)).val % 256, Nat.mod_lt _ (by decide)⟩ : Fin 256) = x 1 :=
    Fin.ext (by show (((Rect.unit (s := S1024x4608) ![0, o] S1024x256.size inb).emb x 1)).val % 256 = (x 1).val; rw [e1]; omega)
  rw [hk, hm, e0]
  refine congrArg (k1_pay16 inv (slab X k)) ?_
  funext a
  match a with
  | ⟨0, _⟩ => rfl
  | ⟨1, _⟩ => rfl

set_option maxHeartbeats 4000000 in
/-- The body at the first column tile: the tile is stored in its slab and the maximum starts. -/
theorem runA (c : Dev nD) (i : grid1.Coords) (arg2 : Memref sig .tc .vmem S1024x7168 .fp8e4m3) (harg2 : arg2.IsWhole) (arg3 : Memref sig .tc .vmem S1024x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x4608 .fp8e4m3) (harg9 : arg9.IsWhole) (arg10 : Memref sig .tc .vmem S18x1024x256 .f32) (harg10 : arg10.IsWhole) (arg11 : Memref sig .tc .vmem S1024x128 .f32) (harg11 : arg11.IsWhole) (hc0 : cond1_0 i) (hc1 : ¬cond1_1 i) (hc2 : ¬cond1_2 i)
    (x0 : Vec F S1024x7168 .fp8e4m3) (x1 : Vec F S1024x1 .f32) (x2 : Vec F S7168x256 .fp8e4m3) (x3 : Vec F S7168x256 .fp8e4m3) (x4 : Vec F S1x256 .f32) (x5 : Vec F S1x256 .f32) (xs0 : Vec F S18x1024x256 .f32) (xs1 : Vec F S1024x128 .f32) (xi6 : Vec F S1024x1 .f32) (xi7 : Vec F S1024x4608 .fp8e4m3)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare (VecWindow.put xs0 (k1_off1 i) S1x1024x256.size (k1_pay31 x0 x1 x2 x3 x4 x5)) ∗ owns (c : Thread nD τ) arg11 fullShare (k1_pay33 x0 x1 x2 x3 x4 x5)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11) K := by
    simp only [cc1_gate_up_eq_skeleton]; unfold cc1_gate_up_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg8.eq_unread hf6; obtain rfl := harg9.eq_unread hf7
    sl_exec (disch := first | sl_exact hc0 | sl_exact hc1 | sl_exact hc2)
    sl_step
    have e0 : View.readAt (Elt F) arg2.view (Rect.unit (s := S1024x7168) ![0, 0] S1024x7168.size inb_S1024x7168_S1024x7168_0_0).toLoadRect (harg2.unread x0) = x0 :=
      (View.readAt_full _ _ _).trans (harg2.read_unread x0)
    have e1 : View.readAt (Elt F) arg3.view (Rect.unit (s := S1024x1) ![0, 0] S1024x1.size inb_S1024x1_S1024x1_0_0).toLoadRect (harg3.unread x1) = x1 :=
      (View.readAt_full _ _ _).trans (harg3.read_unread x1)
    have e2 : View.readAt (Elt F) arg4.view (Rect.unit (s := S7168x256) ![0, 0] S7168x256.size inb_S7168x256_S7168x256_0_0).toLoadRect (harg4.unread x2) = x2 :=
      (View.readAt_full _ _ _).trans (harg4.read_unread x2)
    have e3 : View.readAt (Elt F) arg5.view (Rect.unit (s := S7168x256) ![0, 0] S7168x256.size inb_S7168x256_S7168x256_0_0).toLoadRect (harg5.unread x3) = x3 :=
      (View.readAt_full _ _ _).trans (harg5.read_unread x3)
    have e4 : View.readAt (Elt F) arg6.view (Rect.unit (s := S1x256) ![0, 0] S1x256.size inb_S1x256_S1x256_0_0).toLoadRect (harg6.unread x4) = x4 :=
      (View.readAt_full _ _ _).trans (harg6.read_unread x4)
    have e5 : View.readAt (Elt F) arg7.view (Rect.unit (s := S1x256) ![0, 0] S1x256.size inb_S1x256_S1x256_0_0).toLoadRect (harg7.unread x5) = x5 :=
      (View.readAt_full _ _ _).trans (harg7.read_unread x5)
    have eM : View.readAt (Elt F) arg11.view (Rect.unit (s := S1024x128) ![0, 0] S1024x128.size inb_S1024x128_S1024x128_0_0).toLoadRect (harg11.unread xs1) = xs1 :=
      (View.readAt_full _ _ _).trans (harg11.read_unread xs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; swap; · iexact HS0
      ipureintro
      refine (View.read_writes_cons_put _ _ _ _ _ rfl).trans ?_
      rw [View.writes_nil, harg10.read_unread]
      exact congrArg (VecWindow.put xs0 (k1_off1 i) S1x1024x256.size) (by
        show k1_pay31 _ _ _ _ _ _ = _
        rw [e0, e1, e2, e3, e4, e5])
    iexists _; isplitr; swap; · iexact HS1
    ipureintro
    refine (View.read_writes_full _ _ _ _ _).trans ?_
    show k1_pay33 _ _ _ _ _ _ = _
    rw [e0, e1, e2, e3, e4, e5]

set_option maxHeartbeats 4000000 in
/-- The body at a middle column tile: the tile is stored in its slab and the maximum goes on. -/
theorem runB (c : Dev nD) (i : grid1.Coords) (arg2 : Memref sig .tc .vmem S1024x7168 .fp8e4m3) (harg2 : arg2.IsWhole) (arg3 : Memref sig .tc .vmem S1024x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x4608 .fp8e4m3) (harg9 : arg9.IsWhole) (arg10 : Memref sig .tc .vmem S18x1024x256 .f32) (harg10 : arg10.IsWhole) (arg11 : Memref sig .tc .vmem S1024x128 .f32) (harg11 : arg11.IsWhole) (hc0 : ¬cond1_0 i) (hc1 : cond1_1 i) (hc2 : ¬cond1_2 i)
    (x0 : Vec F S1024x7168 .fp8e4m3) (x1 : Vec F S1024x1 .f32) (x2 : Vec F S7168x256 .fp8e4m3) (x3 : Vec F S7168x256 .fp8e4m3) (x4 : Vec F S1x256 .f32) (x5 : Vec F S1x256 .f32) (xs0 : Vec F S18x1024x256 .f32) (xs1 : Vec F S1024x128 .f32) (xi6 : Vec F S1024x1 .f32) (xi7 : Vec F S1024x4608 .fp8e4m3)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare (VecWindow.put xs0 (k1_off1 i) S1x1024x256.size (k1_pay31 x0 x1 x2 x3 x4 x5)) ∗ owns (c : Thread nD τ) arg11 fullShare (k1_pay1 (k1_pay32 x0 x1 x2 x3 x4 x5) xs1)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11) K := by
    simp only [cc1_gate_up_eq_skeleton]; unfold cc1_gate_up_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg8.eq_unread hf6; obtain rfl := harg9.eq_unread hf7
    sl_exec (disch := first | sl_exact hc0 | sl_exact hc1 | sl_exact hc2)
    sl_step
    have e0 : View.readAt (Elt F) arg2.view (Rect.unit (s := S1024x7168) ![0, 0] S1024x7168.size inb_S1024x7168_S1024x7168_0_0).toLoadRect (harg2.unread x0) = x0 :=
      (View.readAt_full _ _ _).trans (harg2.read_unread x0)
    have e1 : View.readAt (Elt F) arg3.view (Rect.unit (s := S1024x1) ![0, 0] S1024x1.size inb_S1024x1_S1024x1_0_0).toLoadRect (harg3.unread x1) = x1 :=
      (View.readAt_full _ _ _).trans (harg3.read_unread x1)
    have e2 : View.readAt (Elt F) arg4.view (Rect.unit (s := S7168x256) ![0, 0] S7168x256.size inb_S7168x256_S7168x256_0_0).toLoadRect (harg4.unread x2) = x2 :=
      (View.readAt_full _ _ _).trans (harg4.read_unread x2)
    have e3 : View.readAt (Elt F) arg5.view (Rect.unit (s := S7168x256) ![0, 0] S7168x256.size inb_S7168x256_S7168x256_0_0).toLoadRect (harg5.unread x3) = x3 :=
      (View.readAt_full _ _ _).trans (harg5.read_unread x3)
    have e4 : View.readAt (Elt F) arg6.view (Rect.unit (s := S1x256) ![0, 0] S1x256.size inb_S1x256_S1x256_0_0).toLoadRect (harg6.unread x4) = x4 :=
      (View.readAt_full _ _ _).trans (harg6.read_unread x4)
    have e5 : View.readAt (Elt F) arg7.view (Rect.unit (s := S1x256) ![0, 0] S1x256.size inb_S1x256_S1x256_0_0).toLoadRect (harg7.unread x5) = x5 :=
      (View.readAt_full _ _ _).trans (harg7.read_unread x5)
    have eM : View.readAt (Elt F) arg11.view (Rect.unit (s := S1024x128) ![0, 0] S1024x128.size inb_S1024x128_S1024x128_0_0).toLoadRect (harg11.unread xs1) = xs1 :=
      (View.readAt_full _ _ _).trans (harg11.read_unread xs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; swap; · iexact HS0
      ipureintro
      refine (View.read_writes_cons_put _ _ _ _ _ rfl).trans ?_
      rw [View.writes_nil, harg10.read_unread]
      exact congrArg (VecWindow.put xs0 (k1_off1 i) S1x1024x256.size) (by
        show k1_pay31 _ _ _ _ _ _ = _
        rw [e0, e1, e2, e3, e4, e5])
    iexists _; isplitr; swap; · iexact HS1
    ipureintro
    refine (View.read_writes_full _ _ _ _ _).trans ?_
    show k1_pay1 (k1_pay32 _ _ _ _ _ _) _ = _
    rw [e0, e1, e2, e3, e4, e5, eM]

set_option maxHeartbeats 4000000 in
/-- The body at the last column tile: the tile is stored in its slab, the maximum is complete, and the row block is quantised. -/
theorem runC (c : Dev nD) (i : grid1.Coords) (arg2 : Memref sig .tc .vmem S1024x7168 .fp8e4m3) (harg2 : arg2.IsWhole) (arg3 : Memref sig .tc .vmem S1024x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x4608 .fp8e4m3) (harg9 : arg9.IsWhole) (arg10 : Memref sig .tc .vmem S18x1024x256 .f32) (harg10 : arg10.IsWhole) (arg11 : Memref sig .tc .vmem S1024x128 .f32) (harg11 : arg11.IsWhole) (hc0 : ¬cond1_0 i) (hc1 : cond1_1 i) (hc2 : cond1_2 i)
    (x0 : Vec F S1024x7168 .fp8e4m3) (x1 : Vec F S1024x1 .f32) (x2 : Vec F S7168x256 .fp8e4m3) (x3 : Vec F S7168x256 .fp8e4m3) (x4 : Vec F S1x256 .f32) (x5 : Vec F S1x256 .f32) (xs0 : Vec F S18x1024x256 .f32) (xs1 : Vec F S1024x128 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (scaleOf (k1_pay1 (k1_pay32 x0 x1 x2 x3 x4 x5) xs1)) ∗ owns (c : Thread nD τ) arg9 fullShare (hqOf (invOf (k1_pay1 (k1_pay32 x0 x1 x2 x3 x4 x5) xs1)) (VecWindow.put xs0 (k1_off1 i) S1x1024x256.size (k1_pay31 x0 x1 x2 x3 x4 x5))) ∗ owns (c : Thread nD τ) arg10 fullShare (VecWindow.put xs0 (k1_off1 i) S1x1024x256.size (k1_pay31 x0 x1 x2 x3 x4 x5)) ∗ owns (c : Thread nD τ) arg11 fullShare (k1_pay1 (k1_pay32 x0 x1 x2 x3 x4 x5) xs1)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11) K := by
    simp only [cc1_gate_up_eq_skeleton]; unfold cc1_gate_up_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2)
    sl_step
    have e0 : View.readAt (Elt F) arg2.view (Rect.unit (s := S1024x7168) ![0, 0] S1024x7168.size inb_S1024x7168_S1024x7168_0_0).toLoadRect (harg2.unread x0) = x0 :=
      (View.readAt_full _ _ _).trans (harg2.read_unread x0)
    have e1 : View.readAt (Elt F) arg3.view (Rect.unit (s := S1024x1) ![0, 0] S1024x1.size inb_S1024x1_S1024x1_0_0).toLoadRect (harg3.unread x1) = x1 :=
      (View.readAt_full _ _ _).trans (harg3.read_unread x1)
    have e2 : View.readAt (Elt F) arg4.view (Rect.unit (s := S7168x256) ![0, 0] S7168x256.size inb_S7168x256_S7168x256_0_0).toLoadRect (harg4.unread x2) = x2 :=
      (View.readAt_full _ _ _).trans (harg4.read_unread x2)
    have e3 : View.readAt (Elt F) arg5.view (Rect.unit (s := S7168x256) ![0, 0] S7168x256.size inb_S7168x256_S7168x256_0_0).toLoadRect (harg5.unread x3) = x3 :=
      (View.readAt_full _ _ _).trans (harg5.read_unread x3)
    have e4 : View.readAt (Elt F) arg6.view (Rect.unit (s := S1x256) ![0, 0] S1x256.size inb_S1x256_S1x256_0_0).toLoadRect (harg6.unread x4) = x4 :=
      (View.readAt_full _ _ _).trans (harg6.read_unread x4)
    have e5 : View.readAt (Elt F) arg7.view (Rect.unit (s := S1x256) ![0, 0] S1x256.size inb_S1x256_S1x256_0_0).toLoadRect (harg7.unread x5) = x5 :=
      (View.readAt_full _ _ _).trans (harg7.read_unread x5)
    have eM : View.readAt (Elt F) arg11.view (Rect.unit (s := S1024x128) ![0, 0] S1024x128.size inb_S1024x128_S1024x128_0_0).toLoadRect (harg11.unread xs1) = xs1 :=
      (View.readAt_full _ _ _).trans (harg11.read_unread xs1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    have hv : runC.sl.v39 c arg2 harg2 arg3 harg3 arg4 harg4 arg5 harg5 arg6 harg6 arg7 harg7 arg11 harg11 x0 x1 x2 x3 x4 x5 xs1 = (k1_pay1 (k1_pay32 x0 x1 x2 x3 x4 x5) xs1) := by
      unfold runC.sl.v39
      refine (View.readCov_full (Val := Elt F) _ _ _ _ _).trans ?_
      show k1_pay1 (k1_pay32 _ _ _ _ _ _) _ = _
      rw [e0, e1, e2, e3, e4, e5, eM]
    have hinv : runC.sl.r_7 c arg2 harg2 arg3 harg3 arg4 harg4 arg5 harg5 arg6 harg6 arg7 harg7 arg11 harg11 x0 x1 x2 x3 x4 x5 xs1 = invOf (k1_pay1 (k1_pay32 x0 x1 x2 x3 x4 x5) xs1) := by
      show invOf (runC.sl.v39 c arg2 harg2 arg3 harg3 arg4 harg4 arg5 harg5 arg6 harg6 arg7 harg7 arg11 harg11 x0 x1 x2 x3 x4 x5 xs1) = _
      rw [hv]
    have hX : arg10.view.read (Elt F) (arg10.view.writes (Elt F) (harg10.unread xs0) (runC.sl.HS0_1 c i arg2 harg2 arg3 harg3 arg4 harg4 arg5 harg5 arg6 harg6 arg7 harg7 x0 x1 x2 x3 x4 x5)) = (VecWindow.put xs0 (k1_off1 i) S1x1024x256.size (k1_pay31 x0 x1 x2 x3 x4 x5)) := by
      refine (View.read_writes_cons_put _ _ _ _ _ rfl).trans ?_
      rw [View.writes_nil, harg10.read_unread]
      exact congrArg (VecWindow.put xs0 (k1_off1 i) S1x1024x256.size) (by
        show k1_pay31 _ _ _ _ _ _ = _
        rw [e0, e1, e2, e3, e4, e5])

    isplitl [H6]
    · iexists _; isplitr; swap; · iexact H6
      ipureintro
      refine (View.read_writes_full _ _ _ _ _).trans ?_
      show scaleOf (runC.sl.v39 c arg2 harg2 arg3 harg3 arg4 harg4 arg5 harg5 arg6 harg6 arg7 harg7 arg11 harg11 x0 x1 x2 x3 x4 x5 xs1) = _
      rw [hv]
    isplitl [H7]
    · iexists _; isplitr; swap; · iexact H7
      ipureintro
      rw [← hX, ← hinv]
      refine (View.read_writes_eq_canon (Val := Elt F) _ _ _ ?_).trans ?_
      · exact View.cover_of_tiledL (Val := Elt F) (s := S1024x4608) _ S1024x256.size (by sl_kernel_rfl)
      funext y
      refine View.canon_apply_of_pieces (Val := Elt F) _ _ ?_ y ?_
      swap; · exact View.cover_of_tiledL (Val := Elt F) (s := S1024x4608) _ S1024x256.size (by sl_kernel_rfl) y
      refine List.forall_mem_cons.mpr ⟨fun x => hqOf_piece _ _ 17 4352 rfl inb_S1024x4608_S1024x256_0_4352 inb_S18x1024x256_S1x1024x256_17_0_0 x, ?_⟩
      refine List.forall_mem_cons.mpr ⟨fun x => hqOf_piece _ _ 16 4096 rfl inb_S1024x4608_S1024x256_0_4096 inb_S18x1024x256_S1x1024x256_16_0_0 x, ?_⟩
      refine List.forall_mem_cons.mpr ⟨fun x => hqOf_piece _ _ 15 3840 rfl inb_S1024x4608_S1024x256_0_3840 inb_S18x1024x256_S1x1024x256_15_0_0 x, ?_⟩
      refine List.forall_mem_cons.mpr ⟨fun x => hqOf_piece _ _ 14 3584 rfl inb_S1024x4608_S1024x256_0_3584 inb_S18x1024x256_S1x1024x256_14_0_0 x, ?_⟩
      refine List.forall_mem_cons.mpr ⟨fun x => hqOf_piece _ _ 13 3328 rfl inb_S1024x4608_S1024x256_0_3328 inb_S18x1024x256_S1x1024x256_13_0_0 x, ?_⟩
      refine List.forall_mem_cons.mpr ⟨fun x => hqOf_piece _ _ 12 3072 rfl inb_S1024x4608_S1024x256_0_3072 inb_S18x1024x256_S1x1024x256_12_0_0 x, ?_⟩
      refine List.forall_mem_cons.mpr ⟨fun x => hqOf_piece _ _ 11 2816 rfl inb_S1024x4608_S1024x256_0_2816 inb_S18x1024x256_S1x1024x256_11_0_0 x, ?_⟩
      refine List.forall_mem_cons.mpr ⟨fun x => hqOf_piece _ _ 10 2560 rfl inb_S1024x4608_S1024x256_0_2560 inb_S18x1024x256_S1x1024x256_10_0_0 x, ?_⟩
      refine List.forall_mem_cons.mpr ⟨fun x => hqOf_piece _ _ 9 2304 rfl inb_S1024x4608_S1024x256_0_2304 inb_S18x1024x256_S1x1024x256_9_0_0 x, ?_⟩
      refine List.forall_mem_cons.mpr ⟨fun x => hqOf_piece _ _ 8 2048 rfl inb_S1024x4608_S1024x256_0_2048 inb_S18x1024x256_S1x1024x256_8_0_0 x, ?_⟩
      refine List.forall_mem_cons.mpr ⟨fun x => hqOf_piece _ _ 7 1792 rfl inb_S1024x4608_S1024x256_0_1792 inb_S18x1024x256_S1x1024x256_7_0_0 x, ?_⟩
      refine List.forall_mem_cons.mpr ⟨fun x => hqOf_piece _ _ 6 1536 rfl inb_S1024x4608_S1024x256_0_1536 inb_S18x1024x256_S1x1024x256_6_0_0 x, ?_⟩
      refine List.forall_mem_cons.mpr ⟨fun x => hqOf_piece _ _ 5 1280 rfl inb_S1024x4608_S1024x256_0_1280 inb_S18x1024x256_S1x1024x256_5_0_0 x, ?_⟩
      refine List.forall_mem_cons.mpr ⟨fun x => hqOf_piece _ _ 4 1024 rfl inb_S1024x4608_S1024x256_0_1024 inb_S18x1024x256_S1x1024x256_4_0_0 x, ?_⟩
      refine List.forall_mem_cons.mpr ⟨fun x => hqOf_piece _ _ 3 768 rfl inb_S1024x4608_S1024x256_0_768 inb_S18x1024x256_S1x1024x256_3_0_0 x, ?_⟩
      refine List.forall_mem_cons.mpr ⟨fun x => hqOf_piece _ _ 2 512 rfl inb_S1024x4608_S1024x256_0_512 inb_S18x1024x256_S1x1024x256_2_0_0 x, ?_⟩
      refine List.forall_mem_cons.mpr ⟨fun x => hqOf_piece _ _ 1 256 rfl inb_S1024x4608_S1024x256_0_256 inb_S18x1024x256_S1x1024x256_1_0_0 x, ?_⟩
      refine List.forall_mem_cons.mpr ⟨fun x => hqOf_piece _ _ 0 0 rfl inb_S1024x4608_S1024x256_0_0 inb_S18x1024x256_S1x1024x256_0_0_0 x, ?_⟩
      exact fun _ h => absurd h List.not_mem_nil
    isplitl [HS0]
    · iexists _; isplitr; swap; · iexact HS0
      ipureintro; exact hX
    iexists _; isplitr; swap; · iexact HS1
    ipureintro
    refine (View.read_writes_full _ _ _ _ _).trans ?_
    show k1_pay1 (k1_pay32 _ _ _ _ _ _) _ = _
    rw [e0, e1, e2, e3, e4, e5, eM]

end Cert.KernelIdeal.Hand

end
-- ==== Proof.KernelIdeal.Gate.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.Body

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))
/-! # REGION 1 of @main: custom_call 1, `cc1_gate_up` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, for any proof data over these arrays that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at every point, for any proof data over these arrays that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at every point, for any proof data over these arrays that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's buffer holds its block at every point, for any proof data over these arrays that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's buffer holds its block at every point, for any proof data over these arrays that leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's buffer holds its block at every point, for any proof data over these arrays that leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, by the point -/

theorem hcond1_0 : ∀ t : Fin cfg1.N, cond1_0 (grid1.coords t) ↔ t.val % 18 = 0 :=
  (fun t => by
    have ht : t.val < 432 := Nat.lt_of_lt_of_eq t.isLt N_1
    have e0 : (grid1.coords t 0).val = t.val / 18 % 24 := Pipeline.Grid.coords_val t 0 (by decide) rfl
    have e1 : (grid1.coords t 1).val = t.val / 1 % 18 := Pipeline.Grid.coords_val t 1 (by decide) rfl
    simp only [cond1_0, e0, e1]
    word_cmp
   : ∀ t : Fin grid1.N, cond1_0 (grid1.coords t) ↔ t.val % 18 = 0)
theorem hcond1_1 : ∀ t : Fin cfg1.N, cond1_1 (grid1.coords t) ↔ 1 ≤ t.val % 18 :=
  (by decide +kernel : ∀ t : Fin grid1.N, cond1_1 (grid1.coords t) ↔ 1 ≤ t.val % 18)
theorem hcond1_2 : ∀ t : Fin cfg1.N, cond1_2 (grid1.coords t) ↔ t.val % 18 = 17 :=
  (fun t => by
    have ht : t.val < 432 := Nat.lt_of_lt_of_eq t.isLt N_1
    have e0 : (grid1.coords t 0).val = t.val / 18 % 24 := Pipeline.Grid.coords_val t 0 (by decide) rfl
    have e1 : (grid1.coords t 1).val = t.val / 1 % 18 := Pipeline.Grid.coords_val t 1 (by decide) rfl
    simp only [cond1_2, k1_cond3, e0, e1]
    word_cmp
   : ∀ t : Fin grid1.N, cond1_2 (grid1.coords t) ↔ t.val % 18 = 17)
/-- Where the point's tile is stored. -/
theorem off1_at (t : Fin cfg1.N) : k1_off1 (grid1.coords t) = ![t.val % 18, 0, 0] := by
  have e1 : (grid1.coords t 1).val = t.val / 1 % 18 := Pipeline.Grid.coords_val t 1 (by decide) rfl
  rw [k1_off1_eq, e1, Nat.div_one]

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem idleAt1_6_A : ∀ t : Fin cfg1.N, ¬cond1_2 (grid1.coords t) → cfg1.idle 6 (grid1.coords t) = true := by decide +kernel
theorem noFlush1_6_A : ∀ t : Fin cfg1.N, ¬cond1_2 (grid1.coords t) → (cfg1.win 6).flush t = false := by decide +kernel
theorem liveAt1_6_B : ∀ t : Fin cfg1.N, cond1_2 (grid1.coords t) → cfg1.idle 6 (grid1.coords t) = false := by decide +kernel
theorem idleAt1_7_A : ∀ t : Fin cfg1.N, ¬cond1_2 (grid1.coords t) → cfg1.idle 7 (grid1.coords t) = true := by decide +kernel
theorem noFlush1_7_A : ∀ t : Fin cfg1.N, ¬cond1_2 (grid1.coords t) → (cfg1.win 7).flush t = false := by decide +kernel
theorem liveAt1_7_B : ∀ t : Fin cfg1.N, cond1_2 (grid1.coords t) → cfg1.idle 7 (grid1.coords t) = false := by decide +kernel

/-! ## The operands -/

abbrev ms1_0 (t : Fin cfg1.N) : Memref sig .tc .vmem S1024x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7168x256 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x4608 .fp8e4m3 := win1_7.stage (cfg1.slots t 7)
abbrev hs1_7 (t : Fin cfg1.N) : (ms1_7 t).IsWhole := hstage1_7 ((cfg1.slots t 7).cast nbuf1_7)
abbrev scM1_0 : Memref sig .tc .vmem S18x1024x256 .f32 := Memref.whole cc1_scratch0
abbrev scM1_1 : Memref sig .tc .vmem S1024x128 .f32 := Memref.whole cc1_scratch1

/-- The class invariant with the two scratch buffers as memrefs. -/
theorem PhiA1_eq (c : Dev nD) :
    (Pipeline.ΦA spec1 c : sProp (MT nD τ sig Unit (Elt F) ℕ (UR sig nD τ) ℕ))
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## What the scratch buffers hold -/

/-- The tile point `t` computes. -/
def tileAt (c : Dev nD) (t : Fin cfg1.N) : Vec F S1x1024x256 .f32 := k1_pay31 (iblk1 V c 0 t) (iblk1 V c 1 t) (iblk1 V c 2 t) (iblk1 V c 3 t) (iblk1 V c 4 t) (iblk1 V c 5 t)

/-- The running lane maximum after point `n`, restarted at each row block's first tile. -/
def rmAt (c : Dev nD) : (n : ℕ) → n < cfg1.N → Vec F S1024x128 .f32
  | 0, hn => k1_pay33 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn => if (n + 1) % 18 = 0 then k1_pay33 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
      else k1_pay1 (k1_pay32 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)) (rmAt c n (Nat.lt_of_succ_lt hn))

theorem rmAt_first (c : Dev nD) (t : Fin cfg1.N) (h : t.val % 18 = 0) : rmAt V c t.val t.isLt = k1_pay33 (iblk1 V c 0 t) (iblk1 V c 1 t) (iblk1 V c 2 t) (iblk1 V c 3 t) (iblk1 V c 4 t) (iblk1 V c 5 t) := by
  obtain ⟨n, hn⟩ := t
  cases n with
  | zero => rfl
  | succ n => exact if_pos h
theorem rmAt_step (c : Dev nD) (t : Fin cfg1.N) (h : t.val % 18 ≠ 0) (h' : t.val - 1 < cfg1.N) :
    rmAt V c t.val t.isLt = k1_pay1 (k1_pay32 (iblk1 V c 0 t) (iblk1 V c 1 t) (iblk1 V c 2 t) (iblk1 V c 3 t) (iblk1 V c 4 t) (iblk1 V c 5 t)) (rmAt V c (t.val - 1) h') := by
  obtain ⟨n, hn⟩ := t
  cases n with
  | zero => exact absurd rfl h
  | succ n => exact if_neg h

/-- Before point `n` the tile store holds the tiles of the row block computed so far. -/
def Inv10 (c : Dev nD) (n : ℕ) (X : Vec F S18x1024x256 .f32) : Prop :=
  ∀ t' : Fin cfg1.N, t'.val / 18 = n / 18 → t'.val < n → slab X ⟨t'.val % 18, Nat.mod_lt _ (by decide)⟩ = tileAt V c t'
/-- Before point `n`, not a row block's first, the maximum buffer holds the running maximum. -/
def Inv11 (c : Dev nD) (n : ℕ) (X : Vec F S1024x128 .f32) : Prop :=
  ∀ h : n - 1 < cfg1.N, n % 18 ≠ 0 → X = rmAt V c (n - 1) h

theorem slab_put_same (X : Vec F S18x1024x256 .f32) (w : Vec F S1x1024x256 .f32) (off : Fin 3 → ℕ) (k : Fin 18) (h : off = ![k.val, 0, 0]) :
    slab (VecWindow.put X off S1x1024x256.size w) k = w := by
  subst h
  funext z
  have h0 : (z 0).val < 1 := (z 0).isLt
  have h1 : (z 1).val < 1024 := (z 1).isLt
  have h2 : (z 2).val < 256 := (z 2).isLt
  unfold slab VecWindow.put
  rw [dif_pos]
  · refine congrArg w (funext fun a => Fin.ext ?_)
    match a with
    | ⟨0, _⟩ => show k.val - k.val = (z 0).val; omega
    | ⟨1, _⟩ => show (z 1).val - 0 = (z 1).val; omega
    | ⟨2, _⟩ => show (z 2).val - 0 = (z 2).val; omega
  · intro a
    match a with
    | ⟨0, _⟩ => show k.val ≤ k.val ∧ k.val < k.val + 1; omega
    | ⟨1, _⟩ => show 0 ≤ (z 1).val ∧ (z 1).val < 0 + 1024; omega
    | ⟨2, _⟩ => show 0 ≤ (z 2).val ∧ (z 2).val < 0 + 256; omega

theorem slab_put_ne (X : Vec F S18x1024x256 .f32) (w : Vec F S1x1024x256 .f32) (off : Fin 3 → ℕ) (k : Fin 18) (j : ℕ) (h : off = ![j, 0, 0]) (hj : k.val ≠ j) :
    slab (VecWindow.put X off S1x1024x256.size w) k = slab X k := by
  subst h
  funext z
  unfold slab VecWindow.put
  rw [dif_neg]
  intro hall
  have h0 : j ≤ k.val ∧ k.val < j + 1 := hall 0
  omega

/-- After the point's tile is stored the row block's tiles up to it are there. -/
theorem put_slab (c : Dev nD) (t : Fin cfg1.N) (X : Vec F S18x1024x256 .f32) (h : Inv10 V c t.val X) (t' : Fin cfg1.N)
    (hb : t'.val / 18 = t.val / 18) (hle : t'.val ≤ t.val) :
    slab (VecWindow.put X (k1_off1 (grid1.coords t)) S1x1024x256.size (tileAt V c t)) ⟨t'.val % 18, Nat.mod_lt _ (by decide)⟩ = tileAt V c t' := by
  by_cases e : t' = t
  · subst e; exact slab_put_same X _ _ _ (off1_at t')
  · have hne : t'.val ≠ t.val := fun h => e (Fin.ext h)
    exact (slab_put_ne X _ _ _ (t.val % 18) (off1_at t) (by show t'.val % 18 ≠ t.val % 18; omega)).trans (h t' hb (by omega))

theorem Inv10_next (c : Dev nD) (t : Fin cfg1.N) (X : Vec F S18x1024x256 .f32) (h : Inv10 V c t.val X) :
    Inv10 V c (t.val + 1) (VecWindow.put X (k1_off1 (grid1.coords t)) S1x1024x256.size (tileAt V c t)) :=
  fun t' hb hlt => put_slab V c t X h t' (by omega) (by omega)
theorem Inv11_next (c : Dev nD) (t : Fin cfg1.N) : Inv11 V c (t.val + 1) (rmAt V c t.val t.isLt) := fun _ _ => rfl

/-- The row scales written back at a row block's last tile. -/
def scaleAt (c : Dev nD) (t : Fin cfg1.N) : Vec F S1024x1 .f32 := scaleOf (rmAt V c t.val t.isLt)
/-- The tile of `t`'s row block that holds column `y 1`. -/
def tileOf (t : Fin cfg1.N) (y : S1024x4608.Idx) : Fin cfg1.N :=
  ⟨18 * (t.val / 18) + (y 1).val / 256, by
    have h : t.val < 432 := Nat.lt_of_lt_of_eq t.isLt N_1
    have hy : (y 1).val < 4608 := (y 1).isLt
    exact Nat.lt_of_lt_of_eq (by omega) N_1.symm⟩
/-- The quantised hidden block written back at a row block's last tile. -/
def hqAt (c : Dev nD) (t : Fin cfg1.N) : Vec F S1024x4608 .fp8e4m3 := fun y =>
  k1_pay16 (invOf (rmAt V c t.val t.isLt)) (tileAt V c (tileOf t y)) (ix2 (y 0) ⟨(y 1).val % 256, Nat.mod_lt _ (by decide)⟩)

theorem hqOf_eq (c : Dev nD) (t : Fin cfg1.N) (ht : t.val % 18 = 17) (X : Vec F S18x1024x256 .f32) (h : Inv10 V c t.val X) :
    hqOf (invOf (rmAt V c t.val t.isLt)) (VecWindow.put X (k1_off1 (grid1.coords t)) S1x1024x256.size (tileAt V c t)) = hqAt V c t := by
  funext y
  have hy : (y 1).val < 4608 := (y 1).isLt
  have e := put_slab V c t X h (tileOf t y) (by show (18 * (t.val / 18) + (y 1).val / 256) / 18 = _; omega) (by show 18 * (t.val / 18) + (y 1).val / 256 ≤ _; omega)
  have ek : (⟨(tileOf t y).val % 18, Nat.mod_lt _ (by decide)⟩ : Fin 18) = ⟨(y 1).val / 256, Nat.div_lt_of_lt_mul (y 1).isLt⟩ :=
    Fin.ext (by show (18 * (t.val / 18) + (y 1).val / 256) % 18 = (y 1).val / 256; omega)
  rw [ek] at e
  unfold hqOf hqAt
  rw [e]

/-! ## The invariant -/

/-- What this region never touches: the other region's staging buffers. -/
abbrev HRest (c : Dev nD) : sProp (MT nD τ sig Unit (Elt F) ℕ (UR sig nD τ) ℕ) :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))
/-- The invariant before point `n`. -/
def Φ1 (c : Dev nD) (n : ℕ) : sProp (MT nD τ sig Unit (Elt F) ℕ (UR sig nD τ) ℕ) :=
  iprop((HRest c ∗ (∃ X, ⌜Inv10 V c n X⌝ ∗ owns (c : Thread nD τ) scM1_0 fullShare X)
      ∗ (∃ X, ⌜Inv11 V c n X⌝ ∗ owns (c : Thread nD τ) scM1_1 fullShare X)) ∗ ∃ r, prngReg c r)

/-- It holds at the launch. -/
theorem Φ1_enter (c : Dev nD) : (Pipeline.ΦA spec1 c : sProp (MT nD τ sig Unit (Elt F) ℕ (UR sig nD τ) ℕ)) ⊢ Φ1 V c 0 := by
  rw [PhiA1_eq]; unfold Φ1 HRest
  iintro ⟨⟨HR0, HR1, HR2, HR3, HR4, HR5, ⟨%X0, HS0⟩, ⟨%X1, HS1⟩⟩, Hg⟩
  isplitr [Hg]
  · isplitl [HR0 HR1 HR2 HR3 HR4 HR5]
    · isplitl [HR0]; · iexact HR0
      isplitl [HR1]; · iexact HR1
      isplitl [HR2]; · iexact HR2
      isplitl [HR3]; · iexact HR3
      isplitl [HR4]; · iexact HR4
      iexact HR5
    isplitl [HS0]
    · iexists X0; isplitr; · ipureintro; exact fun _ _ h => absurd h (Nat.not_lt_zero _)
      iexact HS0
    iexists X1; isplitr; · ipureintro; exact fun _ h => absurd rfl h
    iexact HS1
  iexact Hg
/-- It gives the class invariant back at any point. -/
theorem Φ1_leave (c : Dev nD) (n : ℕ) : Φ1 V c n ⊢ (Pipeline.ΦA spec1 c : sProp (MT nD τ sig Unit (Elt F) ℕ (UR sig nD τ) ℕ)) := by
  rw [PhiA1_eq]; unfold Φ1 HRest
  iintro ⟨⟨⟨HR0, HR1, HR2, HR3, HR4, HR5⟩, ⟨%X0, -, HS0⟩, ⟨%X1, -, HS1⟩⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists X0; iexact HS0
    iexists X1; iexact HS1
  iexact Hg

/-! ## The pipeline's proof data -/

/-- The proof data: the arrays as the region finds them, each input left at its block, the outputs at the row scales and
    the quantised block, the invariant above, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => scaleAt V c t
    | ⟨7, _⟩ => hqAt V c t
  Φ t := Φ1 V c t.val
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = scaleAt V c t := by dsimp only [dat1]
theorem after1_7 (c : Dev nD) (t : Fin cfg1.N) : (dat1 V c).after 7 t = hqAt V c t := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)
set_option maxHeartbeats 1600000 in
/-- The body at any point: by the point's case, the run of that case from the invariant's scratch contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Φ1 V c (t.val + 1) from rfl, show (dat1 V c).Φ t.castSucc = Φ1 V c t.val from rfl,
    show (dat1 V c).owesAt () t.succ = (dat1 V c).owesAt () t.castSucc from rfl]
  have hN : t.val < 432 := lt_of_lt_of_eq t.isLt (show cfg1.N = 432 from N_1)
  have hN' : cfg1.N = 432 := N_1
  have hM := Inv11_next V c t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  unfold Φ1
  iintro ⟨⟨⟨HR, ⟨%X0, %hX0, HS0⟩, ⟨%X1, %hX1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 18 = 0
  · have hc2 := (show ¬cond1_2 (grid1.coords t) from (fun h => by have := (hcond1_2 t).mp h; omega))
    rw [Dat.leavesExact_idle (dat1 V c) 6 t (idleAt1_6_A t hc2) (noFlush1_6_A t hc2)]
    rw [Dat.leavesExact_idle (dat1 V c) 7 t (idleAt1_7_A t hc2) (noFlush1_7_A t hc2)]
    rw [rmAt_first V c t h0] at hM
    iapply (runA c (grid1.coords t) _ _ _ _ _ _ _ _ _ _ _ _ _ _ _ _ _ _ _ _ ((hcond1_0 t).mpr h0) (fun h => by have := (hcond1_1 t).mp h; omega) hc2 (iblk1 V c 0 t) (iblk1 V c 1 t) (iblk1 V c 2 t) (iblk1 V c 3 t) (iblk1 V c 4 t) (iblk1 V c 5 t) X0 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HR HS0 HS1 Hg]
    · isplitl [HR HS0 HS1]
      · isplitl [HR]; · iexact HR
        isplitl [HS0]
        · iexists _; isplitr; swap; · iexact HS0
          ipureintro; exact Inv10_next V c t X0 hX0
        iexists _; isplitr; swap; · iexact HS1
        ipureintro; exact hM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h2 : t.val % 18 = 17
  · have hc2 := (hcond1_2 t).mpr h2
    rw [show (dat1 V c).leavesExact 6 t = owns (c : Thread nD τ) (ms1_6 t) fullShare ((dat1 V c).after 6 t) from by
      unfold Dat.leavesExact; rw [liveAt1_6_B t hc2], after1_6]
    rw [show (dat1 V c).leavesExact 7 t = owns (c : Thread nD τ) (ms1_7 t) fullShare ((dat1 V c).after 7 t) from by
      unfold Dat.leavesExact; rw [liveAt1_7_B t hc2], after1_7]
    rw [← hqOf_eq V c t h2 X0 hX0]; unfold scaleAt
    rw [rmAt_step V c t h0 (by omega)] at hM ⊢; obtain rfl := hX1 (by omega) h0
    iapply (runC c (grid1.coords t) _ _ _ _ _ _ _ _ _ _ _ _ _ _ _ _ _ _ _ _ (fun h => h0 ((hcond1_0 t).mp h)) ((hcond1_1 t).mpr (by omega)) hc2 (iblk1 V c 0 t) (iblk1 V c 1 t) (iblk1 V c 2 t) (iblk1 V c 3 t) (iblk1 V c 4 t) (iblk1 V c 5 t) X0 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HR HS0 HS1 Hg]
    · isplitl [HR HS0 HS1]
      · isplitl [HR]; · iexact HR
        isplitl [HS0]
        · iexists _; isplitr; swap; · iexact HS0
          ipureintro; exact Inv10_next V c t X0 hX0
        iexists _; isplitr; swap; · iexact HS1
        ipureintro; exact hM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc2 := (show ¬cond1_2 (grid1.coords t) from (fun h => h2 ((hcond1_2 t).mp h)))
    rw [Dat.leavesExact_idle (dat1 V c) 6 t (idleAt1_6_A t hc2) (noFlush1_6_A t hc2)]
    rw [Dat.leavesExact_idle (dat1 V c) 7 t (idleAt1_7_A t hc2) (noFlush1_7_A t hc2)]
    rw [rmAt_step V c t h0 (by omega)] at hM; obtain rfl := hX1 (by omega) h0
    iapply (runB c (grid1.coords t) _ _ _ _ _ _ _ _ _ _ _ _ _ _ _ _ _ _ _ _ (fun h => h0 ((hcond1_0 t).mp h)) ((hcond1_1 t).mpr (by omega)) hc2 (iblk1 V c 0 t) (iblk1 V c 1 t) (iblk1 V c 2 t) (iblk1 V c 3 t) (iblk1 V c 4 t) (iblk1 V c 5 t) X0 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HR HS0 HS1 Hg]
    · isplitl [HR HS0 HS1]
      · isplitl [HR]; · iexact HR
        isplitl [HS0]
        · iexists _; isplitr; swap; · iexact HS0
          ipureintro; exact Inv10_next V c t X0 hX0
        iexists _; isplitr; swap; · iexact HS1
        ipureintro; exact hM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdeal.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.StableHlo.RunHlo
public import proofs.«01_k».proof.Proof.KernelIdeal.Quant
public import proofs.«01_k».proof.Proof.KernelIdeal.Gate

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp (MT nD τ sig Unit (Elt F) ℕ (UR sig nD τ) ℕ) := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl]
    refine .trans ?_ (Φ1_enter (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = Φ1 (V3 m ρ) c cfg1.N from rfl]
    refine .trans (Φ1_leave (V3 m ρ) c cfg1.N) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every execution ends, nothing faulting, every unscoped buffer at the last
    boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- What the run leaves in one unscoped buffer. -/
theorem run_read {r : PUnit × MemSt nD τ sig (Elt F)} {c : Dev nD} (h : ∀ b ∈ Pipeline.ucRefs τ sig, r.2.mem (((c : Thread nD τ)).1, b) = W5 m ρ c b)
    (b : Ref sig .tc) (hb : ¬ (Proc.devRef .tc b : DevRef τ sig).isScoped) :
    r.2.mem ((c.tc : Thread nD τ).loc b) = W5 m ρ c (Proc.devRef .tc b) := h _ (mem_uc b hb)

/-- The frame claim: the run, read at the arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun r h => ⟨fun c =>
    ⟨(run_read m ρ (h.1 c) main_arg0 (by decide)).trans (W5_main_arg0 m ρ c),
     (run_read m ρ (h.1 c) main_arg1 (by decide)).trans (W5_main_arg1 m ρ c),
     (run_read m ρ (h.1 c) main_arg2 (by decide)).trans (W5_main_arg2 m ρ c)⟩, h.2⟩

end Cert.KernelIdeal.Hand

end
-- ==== Proof.Value.Scale.lean ====
module

public import Idealize.ShloMosaic.Lib.Pointwise
public import Idealize.ShloMosaic.Lib.IdealHost

@[expose] public section

set_option maxRecDepth 16384

/-!
# One row's power-of-two scale

The kernel finds the exponent of `y = amax * (1/448)` by eight comparisons with powers of two (a binary search over
the exponent field) and builds the scale and its inverse from that exponent; the reference takes the least power of two
above `y`. Both are functions of the one number `amax`, and this module proves they are the same function.
-/

noncomputable section

namespace Cert.Value

open Idealize.ShloMosaic

/-- The number whose exponent field is `n` and whose other fields are zero. -/
def pw (n : ℕ) : EReal := Ideal.ofBits .f32 (IntOp.shli .vector (BitVec.ofNat 32 n) 23#32)

/-- One step of the search: add `b` to the exponent field `t` if the power there is at most `y`. -/
def sstep (y : EReal) (b t : BitVec 32) : BitVec 32 :=
  Scalar.select (Ideal.cmp .oge y (Ideal.ofBits .f32 (IntOp.shli .vector (IntOp.addi t b) 23#32))) (IntOp.addi t b) t

/-- The first five steps. -/
def search5 (y : EReal) : BitVec 32 := sstep y 8#32 (sstep y 16#32 (sstep y 32#32 (sstep y 64#32 (sstep y 128#32 0#32))))

/-- The last three. -/
def search8 (y : EReal) (t : BitVec 32) : BitVec 32 := sstep y 1#32 (sstep y 2#32 (sstep y 4#32 t))

/-- The exponent read off the search's field: zero for the two extreme fields and for a zero maximum. -/
def expOf (a : EReal) (t : BitVec 32) : BitVec 32 :=
  Scalar.select (Ideal.cmp .oeq a (Ideal.ofBits .f32 0x00000000#32)) 0#32
    (Scalar.select (IntOp.ori (IntOp.cmpi .eq t 0#32) (IntOp.cmpi .eq t 255#32)) 0#32 (IntOp.subi t 126#32))

/-- The word of `2 ^ clip(e, -126, 126)`. -/
def clipPow (e : BitVec 32) : BitVec 32 :=
  IntOp.addi (IntOp.minsi 126#32 (IntOp.maxsi 4294967170#32 e)) 127#32

/-- The power with exponent `clip(e, -126, 126)`. -/
def powOf (e : BitVec 32) : EReal := Ideal.ofBits .f32 (IntOp.shli .vector (clipPow e) 23#32)

/-- `amax * (1/448)`. -/
def yOf (a : EReal) : EReal := a * Ideal.ofBits .f32 0x3B124925#32

/-- The kernel's exponent. -/
def kexp (a : EReal) : BitVec 32 := expOf a (search8 (yOf a) (search5 (yOf a)))
/-- The kernel's scale. -/
def kscale (a : EReal) : EReal := powOf (kexp a)
/-- The kernel's inverse scale. -/
def kinv (a : EReal) : EReal := powOf (IntOp.subi 0#32 (kexp a))

/-- The reference's `k`-th power of two, `2 ^ (k - 125)`. -/
def rpow (k : Fin 252) : EReal :=
  Ideal.exp2 (FloatOps.sitofp (F := Ideal) .f32 (IntOp.addi (BitVec.ofNat 32 (k : ℕ)) 4294967171#32))

/-- The reference's scale: the least power above `y`, and one outside the normal range. -/
def rscale (a : EReal) : EReal :=
  Scalar.select (IntOp.andi (Ideal.cmp .oge (yOf a) (Ideal.ofBits .f32 0x00800000#32))
      (Ideal.cmp .olt (yOf a) (Ideal.ofBits .f32 0x7F800000#32)))
    (Finset.univ.fold min (Ideal.ofBits .f32 0x7F800000#32) fun k : Fin 252 =>
      Scalar.select (Ideal.cmp .ogt (rpow k) (yOf a)) (rpow k) (Ideal.ofBits .f32 0x7E800000#32))
    (Ideal.ofBits .f32 0x3F800000#32)

/-! ## Constants -/

theorem field_facts : ∀ n : Fin 256,
    ((IntOp.shli .vector (BitVec.ofNat 32 n) 23#32).extractLsb' 31 1 == 1#1) = false
    ∧ ((IntOp.shli .vector (BitVec.ofNat 32 n) 23#32).extractLsb' 23 8).toNat = n
    ∧ ((IntOp.shli .vector (BitVec.ofNat 32 n) 23#32).extractLsb' 0 23).toNat = 0 := by decide +kernel

theorem ieee_field (e m : ℕ) {w : ℕ} (b : BitVec w) (n : ℕ) (ha : (b.extractLsb' (e + m) 1 == 1#1) = false)
    (hb : (b.extractLsb' m e).toNat = n) (hc : (b.extractLsb' 0 m).toNat = 0) (h0 : n ≠ 0) (h1 : n ≠ 2 ^ e - 1) :
    Ideal.ieee e m b = (((2 ^ m : ℝ) * (2 : ℝ) ^ ((n : ℤ) - (2 ^ (e - 1) - 1) - m) : ℝ) : EReal) := by
  unfold Ideal.ieee
  simp only [ha, hb, hc, if_neg h0, if_neg h1]
  simp

theorem two_pow_split (k : ℤ) : (2 : ℝ) ^ 23 * (2 : ℝ) ^ (k - 150) = (2 : ℝ) ^ (k - 127) := by
  rw [show k - 127 = (k - 150) + 23 by ring, zpow_add₀ (by norm_num), mul_comm]
  rfl

theorem field_of (n : ℕ) (h : n < 256) (w : BitVec 32) (hw : w = IntOp.shli .vector (BitVec.ofNat 32 n) 23#32) :
    (w.extractLsb' (8 + 23) 1 == 1#1) = false ∧ (w.extractLsb' 23 8).toNat = n ∧ (w.extractLsb' 0 23).toNat = 0 := by
  subst hw; exact field_facts ⟨n, h⟩

theorem pw_val (n : ℕ) (h1 : 1 ≤ n) (h2 : n ≤ 254) : pw n = (((2 : ℝ) ^ ((n : ℤ) - 127) : ℝ) : EReal) := by
  unfold pw
  generalize hw : IntOp.shli .vector (BitVec.ofNat 32 n) 23#32 = w
  obtain ⟨ha, hb, hc⟩ := field_of n (by omega) w hw.symm
  have h := ieee_field 8 23 w n ha hb hc (by omega) (by omega)
  rw [show (n : ℤ) - (2 ^ (8 - 1) - 1) - (23 : ℕ) = (n : ℤ) - 150 by push_cast; ring, two_pow_split] at h
  exact h

theorem pw_255 : pw 255 = ⊤ := by
  obtain ⟨ha, hb, hc⟩ := field_facts ⟨255, by omega⟩
  simp only at ha hb hc
  unfold pw Ideal.ofBits Ideal.ieee
  simp [ha, hb, hc]

theorem pw_127 : pw 127 = 1 := by rw [pw_val 127 (by omega) (by omega)]; norm_num

theorem c_zero : Ideal.ofBits .f32 0x00000000#32 = 0 := Ideal.ofBits_zero .f32
theorem c_top : Ideal.ofBits .f32 0x7F800000#32 = ⊤ := by simp [Ideal.ofBits, Ideal.ieee]
theorem c_bot : Ideal.ofBits .f32 0xFF800000#32 = ⊥ := by simp [Ideal.ofBits, Ideal.ieee]
theorem c_min : Ideal.ofBits .f32 0x00800000#32 = pw 1 := by unfold pw; congr 1
theorem c_max : Ideal.ofBits .f32 0x7E800000#32 = pw 253 := by unfold pw; congr 1
theorem c_one : Ideal.ofBits .f32 0x3F800000#32 = 1 := Ideal.ofBits_one_f32

/-! ## The search -/

/-- The field lies in `[n, n + b)`. -/
def Inv (y : EReal) (b n : ℕ) : Prop := (n = 0 ∨ pw n ≤ y) ∧ n + b ≤ 256 ∧ (n + b = 256 ∨ y < pw (n + b))

theorem addi_ofNat (n b : ℕ) : IntOp.addi (BitVec.ofNat 32 n) (BitVec.ofNat 32 b) = BitVec.ofNat 32 (n + b) := by
  unfold IntOp.addi; exact (BitVec.ofNat_add n b).symm

theorem select_oge (x y : EReal) {α : Type} (a b : α) : Scalar.select (Ideal.cmp .oge x y) a b = if y ≤ x then a else b := by
  unfold Ideal.cmp Scalar.select
  by_cases h : y ≤ x <;> simp [h]

theorem select_ogt (x y : EReal) {α : Type} (a b : α) : Scalar.select (Ideal.cmp .ogt x y) a b = if y < x then a else b := by
  unfold Ideal.cmp Scalar.select
  by_cases h : y < x <;> simp [h]

theorem select_oeq (x y : EReal) {α : Type} (a b : α) : Scalar.select (Ideal.cmp .oeq x y) a b = if x = y then a else b := by
  unfold Ideal.cmp Scalar.select
  by_cases h : x = y <;> simp [h]

theorem select_range (x y z : EReal) {α : Type} (a b : α) :
    Scalar.select (IntOp.andi (Ideal.cmp .oge x y) (Ideal.cmp .olt x z)) a b = if y ≤ x ∧ x < z then a else b := by
  unfold Ideal.cmp Scalar.select IntOp.andi
  by_cases h : y ≤ x <;> by_cases h' : x < z <;> simp [h, h']

theorem step_inv (y : EReal) (b : ℕ) (hb : 1 ≤ b) (T : BitVec 32) (h : ∃ n, T = BitVec.ofNat 32 n ∧ Inv y (2 * b) n) :
    ∃ n, sstep y (BitVec.ofNat 32 b) T = BitVec.ofNat 32 n ∧ Inv y b n := by
  obtain ⟨n, rfl, h0, h1, h2⟩ := h
  unfold sstep
  rw [addi_ofNat, select_oge]
  by_cases hc : pw (n + b) ≤ y
  · refine ⟨n + b, if_pos hc, .inr hc, by omega, ?_⟩
    rcases h2 with h2 | h2
    · left; omega
    · right; rwa [add_assoc, ← two_mul]
  · exact ⟨n, if_neg hc, h0, by omega, .inr (not_le.1 hc)⟩

/-- What the search ends with. -/
theorem search_spec (y : EReal) : ∃ n, search8 y (search5 y) = BitVec.ofNat 32 n ∧ Inv y 1 n := by
  unfold search8 search5
  refine step_inv y 1 (by omega) _ (step_inv y 2 (by omega) _ (step_inv y 4 (by omega) _ (step_inv y 8 (by omega) _
    (step_inv y 16 (by omega) _ (step_inv y 32 (by omega) _ (step_inv y 64 (by omega) _ (step_inv y 128 (by omega) _ ?_)))))))
  exact ⟨0, rfl, .inl rfl, by omega, .inl (by omega)⟩

/-! ## The exponent -/

theorem exp_words : ∀ n : Fin 256,
    (Scalar.select (IntOp.ori (IntOp.cmpi .eq (BitVec.ofNat 32 n) 0#32) (IntOp.cmpi .eq (BitVec.ofNat 32 n) 255#32)) 0#32
      (IntOp.subi (BitVec.ofNat 32 n) 126#32)) = if n.val = 0 ∨ n.val = 255 then 0#32 else IntOp.subi (BitVec.ofNat 32 n) 126#32 := by
  decide +kernel

theorem clip_words : ∀ n : Fin 256, 1 ≤ n.val → n.val ≤ 254 →
    clipPow (IntOp.subi (BitVec.ofNat 32 n) 126#32) = BitVec.ofNat 32 (min (n.val + 1) 253)
    ∧ clipPow (IntOp.subi 0#32 (IntOp.subi (BitVec.ofNat 32 n) 126#32)) = BitVec.ofNat 32 (max (253 - n.val) 1) := by
  decide +kernel

theorem clip_zero : clipPow 0#32 = BitVec.ofNat 32 127 ∧ clipPow (IntOp.subi 0#32 0#32) = BitVec.ofNat 32 127 := by
  decide +kernel

theorem powOf_of {e : BitVec 32} {n : ℕ} (h : clipPow e = BitVec.ofNat 32 n) : powOf e = pw n := by
  unfold powOf pw; rw [h]

theorem rpow_words : ∀ k : Fin 252, (IntOp.addi (BitVec.ofNat 32 (k : ℕ)) 4294967171#32).toInt = (k.val : ℤ) - 125 := by
  decide +kernel

theorem rpow_val (k : Fin 252) : rpow k = pw (k.val + 2) := by
  rw [pw_val _ (by omega) (by omega)]
  unfold rpow
  show Ideal.exp2 (((IntOp.addi (BitVec.ofNat 32 (k : ℕ)) 4294967171#32).toInt : ℝ) : EReal) = _
  rw [rpow_words]
  show ((Real.rpow 2 _ : ℝ) : EReal) = _
  congr 1
  rw [show (((k.val : ℤ) - 125 : ℤ) : ℝ) = (((k.val : ℤ) - 125 : ℤ) : ℝ) from rfl]
  show (2 : ℝ) ^ (((k.val : ℤ) - 125 : ℤ) : ℝ) = _
  rw [Real.rpow_intCast]
  congr 1
  push_cast
  ring

theorem pw_lt {a b : ℕ} (ha : 1 ≤ a) (hab : a < b) (hb : b ≤ 254) : pw a < pw b := by
  rw [pw_val a ha (by omega), pw_val b (by omega) hb, EReal.coe_lt_coe_iff]
  exact zpow_lt_zpow_right₀ (by norm_num) (by omega)

theorem pw_le {a b : ℕ} (ha : 1 ≤ a) (hab : a ≤ b) (hb : b ≤ 254) : pw a ≤ pw b := by
  rcases hab.eq_or_lt with rfl | h
  · exact le_rfl
  · exact (pw_lt ha h hb).le

theorem pw_pos {a : ℕ} (ha : 1 ≤ a) (hb : a ≤ 254) : 0 < pw a := by
  rw [pw_val a ha hb]; exact EReal.coe_pos.2 (by positivity)

theorem pw_lt_top {a : ℕ} (ha : 1 ≤ a) (hb : a ≤ 254) : pw a < ⊤ := by
  rw [pw_val a ha hb]; exact EReal.coe_lt_top _

/-- Dividing by a power is multiplying by the opposite one. -/
theorem div_pw (v : EReal) {a b : ℕ} (ha : 1 ≤ a) (hb : 1 ≤ b) (h : a + b = 254) : Ideal.div v (pw a) = v * pw b := by
  unfold Ideal.div
  rw [if_neg (pw_pos ha (by omega)).ne', pw_val a ha (by omega), pw_val b hb (by omega), ← EReal.coe_inv]
  congr 2
  rw [← zpow_neg]
  congr 1
  omega

/-- The least power above `y`, for a `y` whose field is `n`. -/
theorem least (y : EReal) (n : ℕ) (h1 : 1 ≤ n) (h2 : n ≤ 254) (hlo : pw n ≤ y) (hhi : n = 254 ∨ y < pw (n + 1)) :
    (Finset.univ.fold min (⊤ : EReal) fun k : Fin 252 => if y < rpow k then rpow k else pw 253) = pw (min (n + 1) 253) := by
  apply le_antisymm
  · rw [Finset.fold_min_le]
    right
    by_cases hn : n + 1 ≤ 253
    · refine ⟨⟨n - 1, by omega⟩, Finset.mem_univ _, ?_⟩
      rw [rpow_val, show n - 1 + 2 = n + 1 by omega, min_eq_left hn]
      rw [if_pos (hhi.resolve_left (by omega))]
    · refine ⟨⟨0, by omega⟩, Finset.mem_univ _, ?_⟩
      rw [min_eq_right (by omega), if_neg]
      rw [rpow_val, not_lt]
      exact (pw_le (by omega) (by show 2 ≤ n; omega) h2).trans hlo
  · rw [Finset.le_fold_min]
    refine ⟨le_top, fun k _ => ?_⟩
    split_ifs with hk
    · rw [rpow_val] at hk ⊢
      have hk' : n < k.val + 2 := by
        by_contra hc
        exact absurd ((pw_le (by omega) (not_lt.1 hc) h2).trans hlo) (not_le.2 hk)
      exact pw_le (by omega) (by omega) (by omega)
    · exact pw_le (by omega) (by omega) (by omega)

/-- The kernel's scale of a row is the reference's, and the kernel's multiplication by the inverse is the reference's
division, for every maximum of absolute values, infinite ones included. -/
theorem scale_eq (a : EReal) (ha : 0 ≤ a) : kscale a = rscale a ∧ ∀ v, v * kinv a = Ideal.div v (rscale a) := by
  obtain ⟨n, hT, h0, h1, h2⟩ := search_spec (yOf a)
  have hone : Ideal.div = fun v w : EReal => Ideal.div v w := rfl
  have hd1 : ∀ v : EReal, v * pw 127 = Ideal.div v 1 := fun v => by
    rw [← pw_127]; exact (div_pw v (by omega) (by omega) (by omega)).symm
  have hr : rscale a = if pw 1 ≤ yOf a ∧ yOf a < ⊤ then
      (Finset.univ.fold min (⊤ : EReal) fun k : Fin 252 => if yOf a < rpow k then rpow k else pw 253) else 1 := by
    unfold rscale
    rw [select_range, c_min, c_top, c_one, c_max]
    simp only [select_ogt]
  have hk : kexp a = if a = 0 then 0#32 else if n = 0 ∨ n = 255 then 0#32 else IntOp.subi (BitVec.ofNat 32 n) 126#32 := by
    unfold kexp expOf
    rw [hT, select_oeq, c_zero, exp_words ⟨n, by omega⟩]
  by_cases hz : a = 0 ∨ n = 0 ∨ n = 255
  · have hk0 : kexp a = 0#32 := by
      rw [hk]; rcases hz with h | h
      · rw [if_pos h]
      · rw [if_pos h, ite_self]
    have hr1 : rscale a = 1 := by
      rw [hr, if_neg]
      rintro ⟨hlo, hhi⟩
      rcases hz with h | h | h
      · rw [h] at hlo
        unfold yOf at hlo
        rw [zero_mul] at hlo
        exact absurd hlo (not_le.2 (pw_pos (by omega) (by omega)))
      · subst h
        rcases h2 with h2 | h2
        · omega
        · exact absurd hlo (not_le.2 h2)
      · subst h
        rcases h0 with h0 | h0
        · omega
        · rw [pw_255] at h0; exact absurd hhi (not_lt.2 h0)
    have hs : kscale a = pw 127 := by unfold kscale; rw [hk0]; exact powOf_of clip_zero.1
    have hi : kinv a = pw 127 := by unfold kinv; rw [hk0]; exact powOf_of clip_zero.2
    rw [hs, hi, hr1]
    exact ⟨pw_127, hd1⟩
  · obtain ⟨hz0, hz1, hz2⟩ : a ≠ 0 ∧ n ≠ 0 ∧ n ≠ 255 := by tauto
    rw [if_neg hz0, if_neg (by tauto)] at hk
    have hlo := h0.resolve_left hz1
    have hhi := h2.resolve_left (by omega)
    obtain ⟨w1, w2⟩ := clip_words ⟨n, by omega⟩ (by show 1 ≤ n; omega) (by show n ≤ 254; omega)
    have hs : kscale a = pw (min (n + 1) 253) := by unfold kscale; rw [hk]; exact powOf_of w1
    have hi : kinv a = pw (max (253 - n) 1) := by unfold kinv; rw [hk]; exact powOf_of w2
    have hr' : rscale a = pw (min (n + 1) 253) := by
      rw [hr, if_pos, least (yOf a) n (by omega) (by omega) hlo]
      · by_cases h : n = 254
        · exact .inl h
        · exact .inr hhi
      · refine ⟨(pw_le (by omega) (by omega) (by omega)).trans hlo, ?_⟩
        by_cases h : n = 254
        · subst h; rwa [pw_255] at hhi
        · exact hhi.trans (pw_lt_top (by omega) (by omega))
    rw [hs, hi, hr']
    exact ⟨rfl, fun v => (div_pw v (by omega) (by omega) (by omega)).symm⟩

end Cert.Value

end
-- ==== Proof.Value.Spec.lean ====
module

public import proofs.«01_k».proof.Proof.Value.Scale

@[expose] public section

set_option maxRecDepth 16384

/-!
# What the three stages compute, one row at a time

Every function here takes plain functions of row and column numbers; both programs' payloads are read down to them.
-/

noncomputable section

namespace Cert.Value

open Idealize.ShloMosaic

/-! Single operations at one index. (Each is proved over variables, so that no proof ever evaluates a literal's bits.) -/

section Ops
variable {s : Shape} {φ ψ : FTy}
theorem mulf_i (a b : FVec Ideal s φ) (i : s.Idx) : mulf a b i = a i * b i := Eq.trans rfl rfl
theorem divf_i (a b : FVec Ideal s φ) (i : s.Idx) : divf a b i = Ideal.div (a i) (b i) := Eq.trans rfl rfl
theorem maximumf_i (a b : FVec Ideal s φ) (i : s.Idx) : maximumf a b i = max (a i) (b i) := Eq.trans rfl rfl
theorem minimumf_i (a b : FVec Ideal s φ) (i : s.Idx) : minimumf a b i = min (a i) (b i) := Eq.trans rfl rfl
theorem absf_i (a : FVec Ideal s φ) (i : s.Idx) : absf a i = max (a i) (-(a i)) := Eq.trans rfl rfl
theorem logistic_i (a : FVec Ideal s φ) (i : s.Idx) : logistic a i = Ideal.logistic (a i) := Eq.trans rfl rfl
theorem truncf_i (a : FVec Ideal s φ) (h : ψ.bits < φ.bits) (i : s.Idx) : truncf ψ a h i = a i := Eq.trans rfl rfl
theorem cst_i (b : BitVec 32) (i : s.Idx) : broadcast s (Scalar.ofBits (F := Ideal) .f32 b) i = Ideal.ofBits .f32 b := Eq.trans rfl rfl

/-- One search step on a whole vector. -/
def vstepV (y : FVec Ideal s .f32) (b : BitVec 32) (t : IVec s 32) : IVec s 32 :=
  select (cmpf .oge y (bitcastToFloat .f32 (shli (addi t (broadcast s b)) (broadcast s 23#32)))) (addi t (broadcast s b)) t
theorem vstepV_i (y : FVec Ideal s .f32) (b : BitVec 32) (t : IVec s 32) (i : s.Idx) : vstepV y b t i = sstep (y i) b (t i) :=
  Eq.trans rfl rfl

/-- The exponents of a whole vector. -/
def expV (a : FVec Ideal s .f32) (t : IVec s 32) : IVec s 32 :=
  select (cmpf .oeq a (broadcast s (Scalar.ofBits .f32 0x00000000#32))) (broadcast s 0#32)
    (select (ori (cmpi .eq t (broadcast s 0#32)) (cmpi .eq t (broadcast s 255#32))) (broadcast s 0#32) (subi t (broadcast s 126#32)))
theorem expV_i (a : FVec Ideal s .f32) (t : IVec s 32) (i : s.Idx) : expV a t i = expOf (a i) (t i) := Eq.trans rfl rfl

/-- The clipped powers of a whole vector. -/
def powVV (e : IVec s 32) : FVec Ideal s .f32 :=
  bitcastToFloat .f32 (shli (addi (minsi (broadcast s 126#32) (maxsi (broadcast s 4294967170#32) e)) (broadcast s 127#32)) (broadcast s 23#32))
theorem powVV_i (e : IVec s 32) (i : s.Idx) : powVV e i = powOf (e i) := Eq.trans rfl rfl

/-- The negated exponents. -/
def negV (e : IVec s 32) : IVec s 32 := subi (broadcast s 0#32) e
theorem negV_i (e : IVec s 32) (i : s.Idx) : negV e i = IntOp.subi 0#32 (e i) := Eq.trans rfl rfl

/-- The whole search. -/
def searchV (y : FVec Ideal s .f32) : IVec s 32 :=
  vstepV y 1#32 (vstepV y 2#32 (vstepV y 4#32 (vstepV y 8#32 (vstepV y 16#32 (vstepV y 32#32 (vstepV y 64#32
    (vstepV y 128#32 (broadcast s 0#32))))))))
theorem searchV_i (y : FVec Ideal s .f32) (i : s.Idx) : searchV y i = search8 (y i) (search5 (y i)) := by
  unfold searchV search8 search5
  rw [vstepV_i, vstepV_i, vstepV_i, vstepV_i, vstepV_i, vstepV_i, vstepV_i, vstepV_i]
  rfl

/-- The exponents of a vector of maxima. -/
def kexpV (a : FVec Ideal s .f32) : IVec s 32 := expV a (searchV (mulf a (broadcast s (Scalar.ofBits .f32 0x3B124925#32))))
theorem kexpV_i (a : FVec Ideal s .f32) (i : s.Idx) : kexpV a i = kexp (a i) := by
  unfold kexpV kexp yOf
  rw [expV_i, searchV_i, mulf_i, cst_i]
end Ops

/-- The largest absolute value of a row. -/
def rowMax {n : ℕ} (f : Fin n → EReal) : EReal :=
  Finset.univ.fold max (Ideal.ofBits .f32 0xFF800000#32) fun k => max (f k) (-(f k))

/-- Clipping to the codes' range. -/
def clampE (v : EReal) : EReal := min (Ideal.ofBits .f32 0x43E00000#32) (max (Ideal.ofBits .f32 0xC3E00000#32) v)

/-- The codes of a row. -/
def codeOf {n : ℕ} (f : Fin n → EReal) (k : Fin n) : EReal := clampE (Ideal.div (f k) (rscale (rowMax f)))

/-- One entry of the scaled product: the row's codes against a column, times the row's and the column's scale. -/
def zOf (x : Fin 7168 → EReal) (w : Fin 7168 → EReal) (s : EReal) : EReal :=
  (∑ k, codeOf x k * w k) * rscale (rowMax x) * s

/-- `silu(gate) * up`. -/
def gateUp (g u : EReal) : EReal := g * Ideal.logistic g * u

/-- One entry of the gated row: the gate from column `q`, the up factor from column `4608 + q`. -/
def hOf (x : Fin 7168 → EReal) (W : Fin 7168 → Fin 9216 → EReal) (s : Fin 9216 → EReal) (q : Fin 4608) : EReal :=
  gateUp (zOf x (fun k => W k ⟨q, by omega⟩) (s ⟨q, by omega⟩))
    (zOf x (fun k => W k ⟨4608 + q, by omega⟩) (s ⟨4608 + q, by omega⟩))

/-- A nonempty row's largest absolute value is not negative. -/
theorem rowMax_nonneg {n : ℕ} (f : Fin n → EReal) (i : Fin n) : 0 ≤ rowMax f := by
  unfold rowMax
  rw [Finset.le_fold_max]
  refine .inr ⟨i, Finset.mem_univ _, ?_⟩
  rcases le_total 0 (f i) with h | h
  · exact h.trans (le_max_left _ _)
  · exact (EReal.neg_nonneg.2 h).trans (le_max_right _ _)

/-- The kernel's codes of a row are the reference's. -/
theorem code_eq {n : ℕ} (f : Fin n → EReal) (k : Fin n) : clampE (f k * kinv (rowMax f)) = codeOf f k := by
  unfold codeOf; rw [(scale_eq _ (rowMax_nonneg f k)).2]

end Cert.Value

end
-- ==== Proof.Value.Ker.lean ====
module

public import proofs.«01_k».proof.Proof.Gen.KernelIdeal.Skeleton
public import proofs.«01_k».proof.Proof.KernelIdeal.Body
public import proofs.«01_k».proof.Proof.Value.Spec

@[expose] public section

set_option maxRecDepth 16384

/-! # The kernel's payloads, read at an index -/

noncomputable section

namespace Cert.KernelIdeal.Pure

open Idealize.ShloMosaic Idealize.ShloMosaic.TcCoe Idealize.SL.Sem
open Cert.KernelIdeal Cert.KernelIdeal.Gen Cert.KernelIdeal.Hand Cert.Value

/-! ## Quantising the input -/

theorem x2_at (x : Vec Ideal S256x7168 .bf16) : k0_pay2 (F := Ideal) x = x := by
  funext j; pointwise [k0_pay2]

/-- Row maxima as a column. -/
def maxV0 (v : FVec Ideal S256x7168 .f32) : FVec Ideal S256x1 .f32 :=
  shapeCast S256x1 (multiReduction .maximumf [1] S256 v 0xFF800000#32 reduces_S256x7168_S256 (.inl rfl) rfl) shapeCasts_S256_S256x1

theorem maxV0_at (v : FVec Ideal S256x7168 .f32) (r : Fin 256) :
    maxV0 v (ix2 r 0) = Finset.univ.fold max (Ideal.ofBits .f32 0xFF800000#32) fun k : Fin 7168 => v (ix2 r k) := by
  pointwise [maxV0]

theorem x3_at (x : Vec Ideal S256x7168 .bf16) (r : Fin 256) :
    k0_pay3 (F := Ideal) x (ix2 r 0) = rowMax fun k : Fin 7168 => x (ix2 r k) := by
  have h : k0_pay3 (F := Ideal) x = maxV0 (absf (k0_pay2 x)) := rfl
  rw [h, maxV0_at, x2_at]
  unfold rowMax
  simp only [absf_i]

theorem x6_eq (x : Vec Ideal S256x7168 .bf16) :
    k0_pay6 (F := Ideal) (k0_pay3 x) (k0_pay4 x) (k0_pay5 x) = kexpV (k0_pay3 x) := rfl

theorem x7_eq (x : Vec Ideal S256x7168 .bf16) :
    k0_pay7 (F := Ideal) (k0_pay3 x) (k0_pay4 x) (k0_pay5 x) = powVV (k0_pay6 (k0_pay3 x) (k0_pay4 x) (k0_pay5 x)) := rfl

/-- A quantised row's scale. -/
theorem xscale_at (x : Vec Ideal S256x7168 .bf16) (r : Fin 256) :
    k0_pay7 (F := Ideal) (k0_pay3 x) (k0_pay4 x) (k0_pay5 x) (ix2 r 0) = rscale (rowMax fun k : Fin 7168 => x (ix2 r k)) := by
  rw [x7_eq, x6_eq, powVV_i, kexpV_i, x3_at]
  exact (scale_eq _ (rowMax_nonneg _ ⟨0, by omega⟩)).1

theorem bc0_at (v : FVec Ideal S256x1 .f32) (r : Fin 256) (k : Fin 7168) :
    broadcastTo S256x7168 v broadcasts_S256x1_S256x7168 (ix2 r k) = v (ix2 r 0) := by
  pointwise

theorem x1_eq (v : FVec Ideal S256x7168 .f32) (e : IVec S256x1 32) :
    k0_pay1 (F := Ideal) v e 0#32 = truncf .fp8e4m3 (minimumf (broadcast S256x7168 (Scalar.ofBits .f32 0x43E00000#32))
      (maximumf (broadcast S256x7168 (Scalar.ofBits .f32 0xC3E00000#32)) (mulf v (broadcastTo S256x7168 (powVV (negV e)) broadcasts_S256x1_S256x7168)))) bitsLt_fp8e4m3_f32 := rfl

/-- A quantised row's codes. -/
theorem xcode_at (x : Vec Ideal S256x7168 .bf16) (r : Fin 256) (k : Fin 7168) :
    k0_pay1 (F := Ideal) (k0_pay2 x) (k0_pay6 (k0_pay3 x) (k0_pay4 x) (k0_pay5 x)) 0#32 (ix2 r k)
      = codeOf (fun k : Fin 7168 => x (ix2 r k)) k := by
  rw [x1_eq, x2_at, x6_eq, truncf_i, minimumf_i, maximumf_i, mulf_i, cst_i, cst_i, bc0_at, powVV_i, negV_i, kexpV_i, x3_at]
  exact code_eq (fun k : Fin 7168 => x (ix2 r k)) k

/-! ## The gated tile -/

theorem mm1_at (a : FVec Ideal S1024x7168 .fp8e4m3) (w : FVec Ideal S7168x256 .fp8e4m3) (r : Fin 1024) (q : Fin 256) :
    matmul dot_S1024x7168_S7168x256_S1024x256_1_0_0_1_n_n none (shapeCast S1024x7168 a shapeCasts_S1024x7168_S1024x7168) w
      (constant (F := Ideal) S1024x256 .f32 0x00000000#32) (ix2 r q) = ∑ k : Fin 7168, a (ix2 r k) * w (ix2 k q) := by
  pointwise

theorem bcr_at (v : FVec Ideal S1024x1 .f32) (r : Fin 1024) (q : Fin 256) :
    broadcastTo S1024x256 v broadcasts_S1024x1_S1024x256 (ix2 r q) = v (ix2 r 0) := by
  pointwise

theorem bcw_at (v : FVec Ideal S1x256 .f32) (r : Fin 1024) (q : Fin 256) :
    broadcastTo S1024x256 (shapeCast S1x256 v shapeCasts_S1x256_S1x256) broadcasts_S1x256_S1024x256 (ix2 r q) = v (ix2 0 q) := by
  pointwise

theorem idc_at (v : FVec Ideal S1024x1 .f32) : shapeCast S1024x1 v shapeCasts_S1024x1_S1024x1 = v := by
  funext j; pointwise

theorem g30_at (a : Vec Ideal S1024x7168 .fp8e4m3) (s : Vec Ideal S1024x1 .f32) (wg wu : Vec Ideal S7168x256 .fp8e4m3)
    (sg su : Vec Ideal S1x256 .f32) (r : Fin 1024) (q : Fin 256) :
    k1_pay30 (F := Ideal) a s wg wu sg su (ix2 r q)
      = gateUp ((∑ k : Fin 7168, a (ix2 r k) * wg (ix2 k q)) * s (ix2 r 0) * sg (ix2 0 q))
          ((∑ k : Fin 7168, a (ix2 r k) * wu (ix2 k q)) * s (ix2 r 0) * su (ix2 0 q)) := by
  simp only [k1_pay30, mulf_i, logistic_i, mm1_at, idc_at, bcr_at, bcw_at]
  rfl

theorem g31_at (a : Vec Ideal S1024x7168 .fp8e4m3) (s : Vec Ideal S1024x1 .f32) (wg wu : Vec Ideal S7168x256 .fp8e4m3)
    (sg su : Vec Ideal S1x256 .f32) (r : Fin 1024) (q : Fin 256) :
    k1_pay31 (F := Ideal) a s wg wu sg su (ix3 0 r q) = k1_pay30 (F := Ideal) a s wg wu sg su (ix2 r q) := by
  pointwise [k1_pay31]

theorem max2_at (v : FVec Ideal S1024x256 .f32) (r : Fin 1024) (l : Fin 128) :
    multiReduction .maximumf [1] S1024x128 (shapeCast S1024x2x128 v shapeCasts_S1024x256_S1024x2x128) 0xFF800000#32 reduces_S1024x2x128_S1024x128 (.inl rfl) rfl (ix2 r l)
      = Finset.univ.fold max (Ideal.ofBits .f32 0xFF800000#32) fun g : Fin 2 => v (ix2 r ⟨g * 128 + l, by omega⟩) := by
  pointwise

theorem g32_at (a : Vec Ideal S1024x7168 .fp8e4m3) (s : Vec Ideal S1024x1 .f32) (wg wu : Vec Ideal S7168x256 .fp8e4m3)
    (sg su : Vec Ideal S1x256 .f32) (r : Fin 1024) (l : Fin 128) :
    k1_pay32 (F := Ideal) a s wg wu sg su (ix2 r l) = rowMax fun g : Fin 2 => k1_pay30 (F := Ideal) a s wg wu sg su (ix2 r ⟨g * 128 + l, by omega⟩) := by
  have h : k1_pay32 (F := Ideal) a s wg wu sg su = multiReduction .maximumf [1] S1024x128 (shapeCast S1024x2x128 (absf (k1_pay30 (F := Ideal) a s wg wu sg su)) shapeCasts_S1024x256_S1024x2x128) 0xFF800000#32 reduces_S1024x2x128_S1024x128 (.inl rfl) rfl := rfl
  rw [h, max2_at]
  unfold rowMax
  simp only [absf_i]

theorem g33_eq (a : Vec Ideal S1024x7168 .fp8e4m3) (s : Vec Ideal S1024x1 .f32) (wg wu : Vec Ideal S7168x256 .fp8e4m3)
    (sg su : Vec Ideal S1x256 .f32) : k1_pay33 (F := Ideal) a s wg wu sg su = k1_pay32 (F := Ideal) a s wg wu sg su := by
  funext j; pointwise [k1_pay33]

theorem idm_at (v : FVec Ideal S1024x128 .f32) : shapeCast S1024x128 v shapeCasts_S1024x128_S1024x128 = v := by
  funext j; pointwise

theorem g1_at (v M : FVec Ideal S1024x128 .f32) (i : S1024x128.Idx) : k1_pay1 (F := Ideal) v M i = max (M i) (v i) := by
  simp only [k1_pay1, idm_at, maximumf_i]

/-! ## The scales of the gated rows -/

def maxV1 (v : FVec Ideal S1024x128 .f32) : FVec Ideal S1024x1 .f32 :=
  shapeCast S1024x1 (multiReduction .maximumf [1] S1024 v 0xFF800000#32 reduces_S1024x128_S1024 (.inl rfl) rfl) shapeCasts_S1024_S1024x1

theorem maxV1_at (v : FVec Ideal S1024x128 .f32) (r : Fin 1024) :
    maxV1 v (ix2 r 0) = Finset.univ.fold max (Ideal.ofBits .f32 0xFF800000#32) fun l : Fin 128 => v (ix2 r l) := by
  pointwise [maxV1]

theorem h4_eq (M : Vec Ideal S1024x128 .f32) : k1_pay4 (F := Ideal) M = maxV1 M := rfl

theorem h8_eq (M : Vec Ideal S1024x128 .f32) :
    k1_pay8 (F := Ideal) (k1_pay4 M) (k1_pay5 M) (k1_pay6 M) (k1_pay7 M) 23#32 = kexpV (k1_pay4 M) := rfl

/-- The scales from the running maximum. -/
theorem scaleOf_at (M : Vec Ideal S1024x128 .f32) (r : Fin 1024) :
    scaleOf M (ix2 r 0) = kscale (Finset.univ.fold max (Ideal.ofBits .f32 0xFF800000#32) fun l : Fin 128 => M (ix2 r l)) := by
  have h : scaleOf M = powVV (k1_pay8 (F := Ideal) (k1_pay4 M) (k1_pay5 M) (k1_pay6 M) (k1_pay7 M) 23#32) := rfl
  rw [h, h8_eq, powVV_i, kexpV_i, h4_eq, maxV1_at]
  rfl

/-- The inverse scales from the running maximum. -/
theorem invOf_at (M : Vec Ideal S1024x128 .f32) (r : Fin 1024) :
    invOf M (ix2 r 0) = kinv (Finset.univ.fold max (Ideal.ofBits .f32 0xFF800000#32) fun l : Fin 128 => M (ix2 r l)) := by
  have h : invOf M = powVV (negV (k1_pay8 (F := Ideal) (k1_pay4 M) (k1_pay5 M) (k1_pay6 M) (k1_pay7 M) 23#32)) := rfl
  rw [h, h8_eq, powVV_i, negV_i, kexpV_i, h4_eq, maxV1_at]
  rfl

theorem sl_at (v : FVec Ideal S1x1024x256 .f32) (r : Fin 1024) (q : Fin 256) :
    shapeCast S1024x256 v shapeCasts_S1x1024x256_S1024x256 (ix2 r q) = v (ix3 0 r q) := by
  pointwise

/-- The codes of a stored tile. -/
theorem g16_at (inv : FVec Ideal S1024x1 .f32) (v : FVec Ideal S1x1024x256 .f32) (r : Fin 1024) (q : Fin 256) :
    k1_pay16 (F := Ideal) inv v (ix2 r q) = clampE (v (ix3 0 r q) * inv (ix2 r 0)) := by
  simp only [k1_pay16, truncf_i, minimumf_i, maximumf_i, mulf_i, cst_i, bcr_at, sl_at]
  unfold clampE
  rfl

end Cert.KernelIdeal.Pure

end
-- ==== Proof.Value.Arr0.lean ====
module

public import proofs.«01_k».proof.Proof.KernelIdeal.Quant
public import proofs.«01_k».proof.Proof.Value.Ker
public import Idealize.ShloMosaic.Lib.Pipeline.ValueKit

@[expose] public section

set_option maxRecDepth 16384

/-! # The arrays the quantising region leaves -/

noncomputable section

namespace Cert.KernelIdeal.Arr

open Idealize.ShloMosaic Idealize.ShloMosaic.TcCoe Idealize.SL.Sem
open Idealize.ShloMosaic.Pipeline (Dat)
open Cert.KernelIdeal Cert.KernelIdeal.Gen Cert.KernelIdeal.Hand Cert.KernelIdeal.Pure Cert.Value

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0] :=
  (by decide +kernel : ∀ t : Fin grid0.N, _)

/-- The quantised codes, row by row. -/
def XC (X : Vec Ideal S24576x7168 .bf16) : Vec Ideal S24576x7168 .fp8e4m3 := fun i =>
  codeOf (fun k : Fin 7168 => X (ix2 (i 0) k)) (i 1)
/-- The scales, row by row. -/
def XS (X : Vec Ideal S24576x7168 .bf16) : Vec Ideal S24576x1 .f32 := fun i =>
  rscale (rowMax fun k : Fin 7168 => X (ix2 (i 0) k))

theorem ld0 (x : Vec Ideal S256x7168 .bf16) : View.ld x r0_0 = x := by
  funext j; pointwise

theorem out1_at (x : Vec Ideal S256x7168 .bf16) (r : Fin 256) (k : Fin 7168) :
    out0_1 (F := Ideal) x (ix2 r k) = codeOf (fun k : Fin 7168 => x (ix2 r k)) k := by
  have h : out0_1 (F := Ideal) x = k0_pay1 (F := Ideal) (k0_pay2 (View.ld x r0_0)) (k0_pay6 (k0_pay8 x) (k0_pay9 x) (k0_pay10 x)) 0#32 := by
    unfold out0_1; frame_out
  rw [h]
  unfold k0_pay8 k0_pay9 k0_pay10
  rw [ld0]
  exact xcode_at x r k

theorem out2_at (x : Vec Ideal S256x7168 .bf16) (r : Fin 256) :
    out0_2 (F := Ideal) x (ix2 r 0) = rscale (rowMax fun k : Fin 7168 => x (ix2 r k)) := by
  have h : out0_2 (F := Ideal) x = k0_pay7 (F := Ideal) (k0_pay8 x) (k0_pay9 x) (k0_pay10 x) := by
    unfold out0_2; frame_out
  rw [h]
  unfold k0_pay8 k0_pay9 k0_pay10
  rw [ld0]
  exact xscale_at x r

theorem in0 (c : Dev nD) (t : Fin cfg0.N) (r : Fin 256) (k : Fin 7168) :
    (show EReal from iblk0 V c 0 t (ix2 r k)) = V c main_v0 (ix2 ⟨t.val * 256 + r.val, by
      have h : t.val < 96 := Nat.lt_of_lt_of_eq t.isLt N_0
      omega⟩ k) := by
  blk_ext [iblk0, idx0 t]

theorem bnd0 (t : Fin cfg0.N) (r : Fin 256) : t.val * 256 + r.val < 24576 := by
  have h : t.val < 96 := Nat.lt_of_lt_of_eq t.isLt N_0
  omega

theorem final1 (c : Dev nD) : (dat0 V c).arrAt 1 cfg0.N = XC (V c main_v0) := by
  refine (dat0 V c).arrAt_eq_of_covers 1 _ (by decide +kernel) fun t _ y => ?_
  blk_simp
  rw [after0_1]
  obtain ⟨r, k, rfl⟩ : ∃ (r : Fin 256) (k : Fin 7168), y = ix2 r k := ⟨y 0, y 1, eq_ix2 y⟩
  have hE : (win0_1.blk t).view.emb (ix2 r k) = ix2 ⟨t.val * 256 + r.val, bnd0 t r⟩ k := by
    blk_ext [idx0 t]
  rw [hE]
  refine (out1_at _ r k).trans ?_
  exact congrArg (fun f : Fin 7168 → EReal => codeOf f k) (funext fun k => in0 V c t r k)

theorem final2 (c : Dev nD) : (dat0 V c).arrAt 2 cfg0.N = XS (V c main_v0) := by
  refine (dat0 V c).arrAt_eq_of_covers 2 _ (by decide +kernel) fun t _ y => ?_
  blk_simp
  rw [after0_2]
  obtain ⟨r, k, rfl⟩ : ∃ (r : Fin 256) (k : Fin 1), y = ix2 r k := ⟨y 0, y 1, eq_ix2 y⟩
  obtain rfl : k = 0 := Subsingleton.elim _ _
  have hE : (win0_2.blk t).view.emb (ix2 r 0) = ix2 ⟨t.val * 256 + r.val, bnd0 t r⟩ 0 := by
    blk_ext [idx0 t]
  rw [hE]
  refine (out2_at _ r).trans ?_
  exact congrArg (fun f : Fin 7168 → EReal => rscale (rowMax f)) (funext fun k => in0 V c t r k)

end Cert.KernelIdeal.Arr

end
-- ==== Proof.Value.Arr1.lean ====
module

public import proofs.«01_k».proof.Proof.KernelIdeal.Gate
public import proofs.«01_k».proof.Proof.Value.Ker
public import Idealize.ShloMosaic.Lib.Pipeline.ValueKit

@[expose] public section

set_option maxRecDepth 16384

/-! # The arrays the gating region leaves -/

noncomputable section

namespace Cert.KernelIdeal.Arr

open Idealize.ShloMosaic Idealize.ShloMosaic.TcCoe Idealize.SL.Sem
open Idealize.ShloMosaic.Pipeline (Dat)
open Cert.KernelIdeal Cert.KernelIdeal.Gen Cert.KernelIdeal.Hand Cert.KernelIdeal.Pure Cert.Value

variable (V : (c : Dev nD) → (b : Ref sig .tc) → Buf (Elt Ideal) ((c : Thread nD τ).loc b))

/-- The gated row from codes, row scales, weights and column scales. -/
def gh (C : Vec Ideal S24576x7168 .fp8e4m3) (S : Vec Ideal S24576x1 .f32) (W : Vec Ideal S7168x9216 .fp8e4m3) (s : Vec Ideal S1x9216 .f32)
    (R : Fin 24576) (q : Fin 4608) : EReal :=
  gateUp ((∑ k : Fin 7168, C (ix2 R k) * W (ix2 k ⟨q.val, by omega⟩)) * S (ix2 R 0) * s (ix2 0 ⟨q.val, by omega⟩))
    ((∑ k : Fin 7168, C (ix2 R k) * W (ix2 k ⟨4608 + q.val, by omega⟩)) * S (ix2 R 0) * s (ix2 0 ⟨4608 + q.val, by omega⟩))

/-- The gated rows of the region's arrays. -/
abbrev ghV (c : Dev nD) : Fin 24576 → Fin 4608 → EReal := gh (V c main_v1_0) (V c main_v1_1) (V c main_arg1) (V c main_v2)

theorem idx1 : ∀ t : Fin cfg1.N, win1_0.index t = ![t.val / 18, 0] ∧ win1_1.index t = ![t.val / 18, 0]
    ∧ win1_2.index t = ![0, t.val % 18] ∧ win1_3.index t = ![0, t.val % 18 + 18] ∧ win1_4.index t = ![0, t.val % 18]
    ∧ win1_5.index t = ![0, t.val % 18 + 18] ∧ win1_6.index t = ![t.val / 18, 0] ∧ win1_7.index t = ![t.val / 18, 0] :=
  (by decide +kernel : ∀ t : Fin grid1.N, _)

theorem bndR (t : Fin cfg1.N) (r : Fin 1024) : t.val / 18 * 1024 + r.val < 24576 := by
  have h : t.val < 432 := Nat.lt_of_lt_of_eq t.isLt N_1
  omega

theorem bndQ (t : Fin cfg1.N) (q : Fin 256) : t.val % 18 * 256 + q.val < 4608 := by
  omega

/-- The point's row. -/
abbrev rowOf (t : Fin cfg1.N) (r : Fin 1024) : Fin 24576 := ⟨t.val / 18 * 1024 + r.val, bndR t r⟩
/-- The point's column. -/
abbrev colOf (t : Fin cfg1.N) (q : Fin 256) : Fin 4608 := ⟨t.val % 18 * 256 + q.val, bndQ t q⟩

theorem in1_0 (c : Dev nD) (t : Fin cfg1.N) (r : Fin 1024) (k : Fin 7168) :
    (show EReal from iblk1 V c 0 t (ix2 r k)) = V c main_v1_0 (ix2 (rowOf t r) k) := by
  blk_ext [iblk1, idx1 t]
theorem in1_1 (c : Dev nD) (t : Fin cfg1.N) (r : Fin 1024) :
    (show EReal from iblk1 V c 1 t (ix2 r 0)) = V c main_v1_1 (ix2 (rowOf t r) 0) := by
  blk_ext [iblk1, idx1 t]
theorem in1_2 (c : Dev nD) (t : Fin cfg1.N) (k : Fin 7168) (q : Fin 256) :
    (show EReal from iblk1 V c 2 t (ix2 k q)) = V c main_arg1 (ix2 k ⟨(colOf t q).val, by omega⟩) := by
  blk_ext [iblk1, idx1 t]
theorem in1_3 (c : Dev nD) (t : Fin cfg1.N) (k : Fin 7168) (q : Fin 256) :
    (show EReal from iblk1 V c 3 t (ix2 k q)) = V c main_arg1 (ix2 k ⟨4608 + (colOf t q).val, by omega⟩) := by
  blk_ext [iblk1, idx1 t]
theorem in1_4 (c : Dev nD) (t : Fin cfg1.N) (q : Fin 256) :
    (show EReal from iblk1 V c 4 t (ix2 0 q)) = V c main_v2 (ix2 0 ⟨(colOf t q).val, by omega⟩) := by
  blk_ext [iblk1, idx1 t]
theorem in1_5 (c : Dev nD) (t : Fin cfg1.N) (q : Fin 256) :
    (show EReal from iblk1 V c 5 t (ix2 0 q)) = V c main_v2 (ix2 0 ⟨4608 + (colOf t q).val, by omega⟩) := by
  blk_ext [iblk1, idx1 t]

/-- The tile of a point, entry by entry. -/
abbrev tile (c : Dev nD) (t : Fin cfg1.N) : FVec Ideal S1024x256 .f32 :=
  k1_pay30 (F := Ideal) (iblk1 V c 0 t) (iblk1 V c 1 t) (iblk1 V c 2 t) (iblk1 V c 3 t) (iblk1 V c 4 t) (iblk1 V c 5 t)

/-- A product-and-scale entry from equal reads. -/
theorem z_congr {a a' w w' : Fin 7168 → EReal} {s s' u u' : EReal} (ha : ∀ k, a k = a' k) (hw : ∀ k, w k = w' k) (hs : s = s') (hu : u = u') :
    (∑ k, a k * w k) * s * u = (∑ k, a' k * w' k) * s' * u' := by
  rw [funext ha, funext hw, hs, hu]

theorem tile_at (c : Dev nD) (t : Fin cfg1.N) (r : Fin 1024) (q : Fin 256) :
    (show EReal from tile V c t (ix2 r q)) = ghV V c (rowOf t r) (colOf t q) := by
  refine (g30_at _ _ _ _ _ _ r q).trans ?_
  exact congrArg₂ gateUp
    (z_congr (in1_0 V c t r) (fun k => in1_2 V c t k q) (in1_1 V c t r) (in1_4 V c t q))
    (z_congr (in1_0 V c t r) (fun k => in1_3 V c t k q) (in1_1 V c t r) (in1_5 V c t q))

/-! ## The running maximum -/

theorem fold_le {n : ℕ} (b : EReal) (f : Fin n → EReal) (x : EReal) :
    Finset.univ.fold max b f ≤ x ↔ b ≤ x ∧ ∀ i, f i ≤ x := by
  rw [Finset.fold_max_le]
  simp only [Finset.mem_univ, true_imp_iff]

/-- The value every running maximum starts from. -/
abbrev lowE : EReal := Ideal.ofBits .f32 0xFF800000#32
/-- The absolute value. -/
abbrev absE (a : EReal) : EReal := max a (-a)

theorem rowMax_le {n : ℕ} (f : Fin n → EReal) (x : EReal) : rowMax f ≤ x ↔ lowE ≤ x ∧ ∀ i, absE (f i) ≤ x :=
  fold_le _ _ _

/-- The lane of a column of tile `j`. -/
abbrev laneCol (j : Fin 18) (g : Fin 2) (l : Fin 128) : Fin 4608 := ⟨j.val * 256 + (g.val * 128 + l.val), by omega⟩

theorem part_le (c : Dev nD) (t : Fin cfg1.N) (r : Fin 1024) (l : Fin 128) (x : EReal) :
    k1_pay32 (F := Ideal) (iblk1 V c 0 t) (iblk1 V c 1 t) (iblk1 V c 2 t) (iblk1 V c 3 t) (iblk1 V c 4 t) (iblk1 V c 5 t) (ix2 r l) ≤ x
      ↔ lowE ≤ x ∧ ∀ g : Fin 2, absE (ghV V c (rowOf t r) (laneCol ⟨t.val % 18, by omega⟩ g l)) ≤ x := by
  rw [g32_at, rowMax_le]
  refine and_congr Iff.rfl (forall_congr' fun g => ?_)
  exact iff_of_eq (congrArg (fun a => absE a ≤ x) (tile_at V c t r ⟨g.val * 128 + l.val, by omega⟩))

theorem rm_le (c : Dev nD) (r : Fin 1024) (l : Fin 128) (x : EReal) : ∀ (n : ℕ) (hn : n < cfg1.N),
    (rmAt V c n hn (ix2 r l) ≤ x ↔ lowE ≤ x ∧ ∀ j : Fin 18, j.val ≤ n % 18 → ∀ g : Fin 2,
      absE (ghV V c (rowOf ⟨n, hn⟩ r) (laneCol j g l)) ≤ x) := by
  intro n
  induction n with
  | zero =>
    intro hn
    rw [rmAt_first V c ⟨0, hn⟩ rfl, g33_eq, part_le]
    refine and_congr Iff.rfl ⟨fun h j hj => ?_, fun h => h _ (Nat.le_refl _)⟩
    rw [show j = ⟨0 % 18, by omega⟩ from Fin.ext (by have : j.val ≤ 0 := hj; show j.val = 0; omega)]
    exact h
  | succ n ih =>
    intro hn
    by_cases h0 : (n + 1) % 18 = 0
    · rw [rmAt_first V c ⟨n + 1, hn⟩ h0, g33_eq, part_le]
      refine and_congr Iff.rfl ⟨fun h j hj => ?_, fun h => h _ (Nat.le_refl _)⟩
      rw [show j = ⟨(n + 1) % 18, by omega⟩ from Fin.ext (by show j.val = (n + 1) % 18; omega)]
      exact h
    · have hn' : n < cfg1.N := Nat.lt_of_succ_lt hn
      have hR : rowOf ⟨n, hn'⟩ r = rowOf ⟨n + 1, hn⟩ r := Fin.ext (by show n / 18 * 1024 + r.val = (n + 1) / 18 * 1024 + r.val; omega)
      rw [rmAt_step V c ⟨n + 1, hn⟩ h0 hn', g1_at, max_le_iff, part_le]
      have ih' := ih hn'
      rw [hR] at ih'
      refine (and_congr ih' Iff.rfl).trans ⟨fun h => ⟨h.1.1, fun j hj => ?_⟩, fun h => ⟨⟨h.1, fun j hj => h.2 j (by omega)⟩, h.1, h.2 ⟨(n + 1) % 18, by omega⟩ (Nat.le_refl _)⟩⟩
      by_cases e : j.val = (n + 1) % 18
      · rw [show j = ⟨(n + 1) % 18, by omega⟩ from Fin.ext e]
        exact h.2.2
      · exact h.1.2 j (by omega)

/-- At a row block's last tile the lanes' maximum is the row's. -/
theorem rm_last (c : Dev nD) (t : Fin cfg1.N) (ht : t.val % 18 = 17) (r : Fin 1024) :
    Finset.univ.fold max lowE (fun l : Fin 128 => rmAt V c t.val t.isLt (ix2 r l)) = rowMax (ghV V c (rowOf t r)) := by
  refine eq_of_forall_ge_iff fun x => ?_
  rw [fold_le, rowMax_le]
  refine ⟨fun h => ⟨h.1, fun q => ?_⟩, fun h => ⟨h.1, fun l => (rm_le V c r l x t.val t.isLt).mpr ⟨h.1, fun j _ g => h.2 _⟩⟩⟩
  have e : q = laneCol ⟨q.val / 256, by omega⟩ ⟨q.val % 256 / 128, by omega⟩ ⟨q.val % 128, by omega⟩ :=
    Fin.ext (by show q.val = q.val / 256 * 256 + (q.val % 256 / 128 * 128 + q.val % 128); omega)
  rw [e]
  exact ((rm_le V c r _ x t.val t.isLt).mp (h.2 ⟨q.val % 128, by omega⟩)).2 _ (by show q.val / 256 ≤ t.val % 18; omega) _

/-! ## The arrays -/

/-- The hidden scales. -/
def HS (f : Fin 24576 → Fin 4608 → EReal) : Vec Ideal S24576x1 .f32 := fun i => rscale (rowMax (f (i 0)))
/-- The hidden codes. -/
def HC (f : Fin 24576 → Fin 4608 → EReal) : Vec Ideal S24576x4608 .fp8e4m3 := fun i => codeOf (f (i 0)) (i 1)

theorem scale_at (c : Dev nD) (t : Fin cfg1.N) (ht : t.val % 18 = 17) (r : Fin 1024) :
    scaleAt V c t (ix2 r 0) = rscale (rowMax (ghV V c (rowOf t r))) := by
  unfold scaleAt
  rw [scaleOf_at, rm_last V c t ht r]
  exact (scale_eq _ (rowMax_nonneg _ ⟨0, by omega⟩)).1

theorem hq_at (c : Dev nD) (t : Fin cfg1.N) (ht : t.val % 18 = 17) (r : Fin 1024) (q : Fin 4608) :
    hqAt V c t (ix2 r q) = codeOf (ghV V c (rowOf t r)) q := by
  have hN : t.val < 432 := Nat.lt_of_lt_of_eq t.isLt N_1
  have hv : (tileOf t (ix2 r q)).val = 18 * (t.val / 18) + q.val / 256 := rfl
  have e : (show EReal from tileAt V c (tileOf t (ix2 r q)) (ix3 0 r ⟨q.val % 256, Nat.mod_lt _ (by decide)⟩)) = ghV V c (rowOf t r) q := by
    unfold tileAt
    refine (g31_at _ _ _ _ _ _ _ _).trans ((tile_at V c _ _ _).trans ?_)
    have hR : rowOf (tileOf t (ix2 r q)) r = rowOf t r := Fin.ext (by show (18 * (t.val / 18) + q.val / 256) / 18 * 1024 + r.val = t.val / 18 * 1024 + r.val; omega)
    have hQ : colOf (tileOf t (ix2 r q)) ⟨q.val % 256, Nat.mod_lt _ (by decide)⟩ = q := Fin.ext (by show (18 * (t.val / 18) + q.val / 256) % 18 * 256 + q.val % 256 = q.val; omega)
    rw [hR, hQ]
  refine (g16_at _ _ r ⟨q.val % 256, Nat.mod_lt _ (by decide)⟩).trans ?_
  rw [invOf_at, rm_last V c t ht r]
  refine Eq.trans ?_ (code_eq (ghV V c (rowOf t r)) q)
  exact congrArg (fun a => clampE (a * kinv (rowMax (ghV V c (rowOf t r))))) e

theorem fl6 : ∀ t : Fin cfg1.N, (cfg1.win 6).flush t = true → t.val % 18 = 17 :=
  (by decide +kernel : ∀ t : Fin grid1.N, _)
theorem fl7 : ∀ t : Fin cfg1.N, (cfg1.win 7).flush t = true → t.val % 18 = 17 :=
  (by decide +kernel : ∀ t : Fin grid1.N, _)

theorem final6 (c : Dev nD) : (dat1 V c).arrAt 6 cfg1.N = HS (ghV V c) := by
  refine (dat1 V c).arrAt_eq_of_covers 6 _ (by decide +kernel) fun t hf y => ?_
  blk_simp
  rw [after1_6]
  obtain ⟨r, k, rfl⟩ : ∃ (r : Fin 1024) (k : Fin 1), y = ix2 r k := ⟨y 0, y 1, eq_ix2 y⟩
  obtain rfl : k = 0 := Subsingleton.elim _ _
  have hE : (win1_6.blk t).view.emb (ix2 r 0) = ix2 (rowOf t r) 0 := by
    blk_ext [idx1 t]
  rw [hE]
  exact scale_at V c t (fl6 t hf) r

theorem final7 (c : Dev nD) : (dat1 V c).arrAt 7 cfg1.N = HC (ghV V c) := by
  refine (dat1 V c).arrAt_eq_of_covers 7 _ (by decide +kernel) fun t hf y => ?_
  blk_simp
  rw [after1_7]
  obtain ⟨r, k, rfl⟩ : ∃ (r : Fin 1024) (k : Fin 4608), y = ix2 r k := ⟨y 0, y 1, eq_ix2 y⟩
  have hE : (win1_7.blk t).view.emb (ix2 r k) = ix2 (rowOf t r) k := by
    blk_ext [idx1 t]
  rw [hE]
  exact hq_at V c t (fl7 t hf) r k

end Cert.KernelIdeal.Arr

end
-- ==== Proof.Value.KerRun.lean ====
module

public import proofs.«01_k».proof.Proof.KernelIdeal.Run
public import proofs.«01_k».proof.Proof.Value.Arr0
public import proofs.«01_k».proof.Proof.Value.Arr1
public import Idealize.ShloMosaic.Lib.Claim

@[expose] public section

set_option maxRecDepth 16384

/-! # What the kernel's run leaves in its results -/

noncomputable section

namespace Cert.KernelIdeal.Arr

open Idealize.ShloMosaic Idealize.ShloMosaic.TcCoe Idealize.SL.Sem
open Cert.KernelIdeal Cert.KernelIdeal.Gen Cert.KernelIdeal.Hand Cert.Value

variable (m : (ℓ : Loc nD τ sig) → Buf (Elt Ideal) ℓ) (ρ : Dev nD → PrngReg)

/-! ## The host's reshapes -/

theorem host0 (G : Valuation τ sig (Elt Ideal)) :
    StableHlo.after (hostOps0 (F := Ideal)) G (Proc.devRef .tc main_v0)
      = shapeCast (s := S8x3072x7168) S24576x7168 (G (Proc.devRef .tc main_arg0)) shapeCasts_S8x3072x7168_S24576x7168 := by
  simp only [StableHlo.after_cons, StableHlo.after_nil]
  after_results_steps
  rfl
theorem host1 (G : Valuation τ sig (Elt Ideal)) :
    StableHlo.after (hostOps1 (F := Ideal)) G (Proc.devRef .tc main_v2)
      = shapeCast (s := S9216) S1x9216 (G (Proc.devRef .tc main_arg2)) shapeCasts_S9216_S1x9216 := by
  simp only [StableHlo.after_cons, StableHlo.after_nil]
  after_results_steps
  rfl
theorem host2_4 (G : Valuation τ sig (Elt Ideal)) :
    StableHlo.after (hostOps2 (F := Ideal)) G (Proc.devRef .tc main_v4)
      = shapeCast (s := S24576x1) S8x3072x1 (G (Proc.devRef .tc main_v3_0)) shapeCasts_S24576x1_S8x3072x1 := by
  simp only [StableHlo.after_cons, StableHlo.after_nil]
  after_results_steps
  rfl
theorem host2_5 (G : Valuation τ sig (Elt Ideal)) :
    StableHlo.after (hostOps2 (F := Ideal)) G (Proc.devRef .tc main_v5)
      = shapeCast (s := S24576x4608) S8x3072x4608 (G (Proc.devRef .tc main_v3_1)) shapeCasts_S24576x4608_S8x3072x4608 := by
  simp only [StableHlo.after_cons, StableHlo.after_nil]
  after_results_steps
  rfl
theorem host2_6 (G : Valuation τ sig (Elt Ideal)) :
    StableHlo.after (hostOps2 (F := Ideal)) G (Proc.devRef .tc main_v6)
      = shapeCast (s := S24576x7168) S8x3072x7168 (G (Proc.devRef .tc main_v1_0)) shapeCasts_S24576x7168_S8x3072x7168 := by
  simp only [StableHlo.after_cons, StableHlo.after_nil]
  after_results_steps
  rfl
theorem host2_7 (G : Valuation τ sig (Elt Ideal)) :
    StableHlo.after (hostOps2 (F := Ideal)) G (Proc.devRef .tc main_v7)
      = shapeCast (s := S24576x1) S8x3072x1 (G (Proc.devRef .tc main_v1_1)) shapeCasts_S24576x1_S8x3072x1 := by
  simp only [StableHlo.after_cons, StableHlo.after_nil]
  after_results_steps
  rfl

/-! ## The arrays between the regions -/

/-- The activations as rows. -/
def xOf (a : Vec Ideal S8x3072x7168 .bf16) : Vec Ideal S24576x7168 .bf16 := shapeCast S24576x7168 a shapeCasts_S8x3072x7168_S24576x7168
/-- The column scales as a row. -/
def sOf (a : Vec Ideal S9216 .f32) : Vec Ideal S1x9216 .f32 := shapeCast S1x9216 a shapeCasts_S9216_S1x9216
/-- The gated rows of the arguments. -/
def gOf (a : Vec Ideal S8x3072x7168 .bf16) (W : Vec Ideal S7168x9216 .fp8e4m3) (s : Vec Ideal S9216 .f32) : Fin 24576 → Fin 4608 → EReal :=
  gh (XC (xOf a)) (XS (xOf a)) W (sOf s)

theorem V1_v0 (c : Dev nD) : V1 m ρ c main_v0 = xOf (m ((c : Thread nD τ).loc main_arg0)) := host0 (W0 m ρ c)

theorem W2_codes (c : Dev nD) : W2 m ρ c (Proc.devRef .tc main_v1_0) = XC (xOf (m ((c : Thread nD τ).loc main_arg0))) :=
  (W2_arr m ρ c 1).trans ((final1 (V1 m ρ) c).trans (congrArg XC (V1_v0 m ρ c)))
theorem W2_scales (c : Dev nD) : W2 m ρ c (Proc.devRef .tc main_v1_1) = XS (xOf (m ((c : Thread nD τ).loc main_arg0))) :=
  (W2_arr m ρ c 2).trans ((final2 (V1 m ρ) c).trans (congrArg XS (V1_v0 m ρ c)))

theorem V3_codes (c : Dev nD) : V3 m ρ c main_v1_0 = XC (xOf (m ((c : Thread nD τ).loc main_arg0))) :=
  (W3_of m ρ c main_v1_0 (by decide)).trans (W2_codes m ρ c)
theorem V3_scales (c : Dev nD) : V3 m ρ c main_v1_1 = XS (xOf (m ((c : Thread nD τ).loc main_arg0))) :=
  (W3_of m ρ c main_v1_1 (by decide)).trans (W2_scales m ρ c)
theorem V3_w (c : Dev nD) : V3 m ρ c main_arg1 = m ((c : Thread nD τ).loc main_arg1) := W3_args m ρ c main_arg1 (by decide)
theorem V3_s (c : Dev nD) : V3 m ρ c main_v2 = sOf (m ((c : Thread nD τ).loc main_arg2)) :=
  (host1 (W2 m ρ c)).trans (congrArg sOf (W2_args m ρ c main_arg2 (by decide)))

/-- The region's gated rows are the arguments'. -/
theorem ghV_eq (c : Dev nD) : ghV (V3 m ρ) c
    = gOf (m ((c : Thread nD τ).loc main_arg0)) (m ((c : Thread nD τ).loc main_arg1)) (m ((c : Thread nD τ).loc main_arg2)) := by
  unfold ghV gOf
  rw [V3_codes, V3_scales, V3_w, V3_s]

theorem W4_hs (c : Dev nD) : W4 m ρ c (Proc.devRef .tc main_v3_0)
    = HS (gOf (m ((c : Thread nD τ).loc main_arg0)) (m ((c : Thread nD τ).loc main_arg1)) (m ((c : Thread nD τ).loc main_arg2))) :=
  (W4_arr m ρ c 6).trans ((final6 (V3 m ρ) c).trans (congrArg HS (ghV_eq m ρ c)))
theorem W4_hc (c : Dev nD) : W4 m ρ c (Proc.devRef .tc main_v3_1)
    = HC (gOf (m ((c : Thread nD τ).loc main_arg0)) (m ((c : Thread nD τ).loc main_arg1)) (m ((c : Thread nD τ).loc main_arg2))) :=
  (W4_arr m ρ c 7).trans ((final7 (V3 m ρ) c).trans (congrArg HC (ghV_eq m ρ c)))
theorem W4_codes (c : Dev nD) : W4 m ρ c (Proc.devRef .tc main_v1_0) = XC (xOf (m ((c : Thread nD τ).loc main_arg0))) :=
  (W4_arr m ρ c 0).trans ((((dat1 (V3 m ρ) c).arrAt_in 0 rfl _).trans (A_eq1 (V3 m ρ) c 0)).trans (V3_codes m ρ c))
theorem W4_scales (c : Dev nD) : W4 m ρ c (Proc.devRef .tc main_v1_1) = XS (xOf (m ((c : Thread nD τ).loc main_arg0))) :=
  (W4_arr m ρ c 1).trans ((((dat1 (V3 m ρ) c).arrAt_in 1 rfl _).trans (A_eq1 (V3 m ρ) c 1)).trans (V3_scales m ρ c))

/-! ## The results -/

/-- The hidden scales, from the arguments. -/
def res0 (a : Vec Ideal S8x3072x7168 .bf16) (W : Vec Ideal S7168x9216 .fp8e4m3) (s : Vec Ideal S9216 .f32) : Vec Ideal S8x3072x1 .f32 :=
  shapeCast S8x3072x1 (HS (gOf a W s)) shapeCasts_S24576x1_S8x3072x1
/-- The hidden codes, from the arguments. -/
def res1 (a : Vec Ideal S8x3072x7168 .bf16) (W : Vec Ideal S7168x9216 .fp8e4m3) (s : Vec Ideal S9216 .f32) : Vec Ideal S8x3072x4608 .fp8e4m3 :=
  shapeCast S8x3072x4608 (HC (gOf a W s)) shapeCasts_S24576x4608_S8x3072x4608
/-- The activations' codes. -/
def res2 (a : Vec Ideal S8x3072x7168 .bf16) : Vec Ideal S8x3072x7168 .fp8e4m3 :=
  shapeCast S8x3072x7168 (XC (xOf a)) shapeCasts_S24576x7168_S8x3072x7168
/-- The activations' scales. -/
def res3 (a : Vec Ideal S8x3072x7168 .bf16) : Vec Ideal S8x3072x1 .f32 :=
  shapeCast S8x3072x1 (XS (xOf a)) shapeCasts_S24576x1_S8x3072x1

theorem W5_v4 (c : Dev nD) : W5 m ρ c (Proc.devRef .tc main_v4)
    = res0 (m ((c : Thread nD τ).loc main_arg0)) (m ((c : Thread nD τ).loc main_arg1)) (m ((c : Thread nD τ).loc main_arg2)) :=
  (host2_4 (W4 m ρ c)).trans (congrArg (fun v : Vec Ideal S24576x1 .f32 => shapeCast S8x3072x1 v shapeCasts_S24576x1_S8x3072x1) (W4_hs m ρ c))
theorem W5_v5 (c : Dev nD) : W5 m ρ c (Proc.devRef .tc main_v5)
    = res1 (m ((c : Thread nD τ).loc main_arg0)) (m ((c : Thread nD τ).loc main_arg1)) (m ((c : Thread nD τ).loc main_arg2)) :=
  (host2_5 (W4 m ρ c)).trans (congrArg (fun v : Vec Ideal S24576x4608 .fp8e4m3 => shapeCast S8x3072x4608 v shapeCasts_S24576x4608_S8x3072x4608) (W4_hc m ρ c))
theorem W5_v6 (c : Dev nD) : W5 m ρ c (Proc.devRef .tc main_v6) = res2 (m ((c : Thread nD τ).loc main_arg0)) :=
  (host2_6 (W4 m ρ c)).trans (congrArg (fun v : Vec Ideal S24576x7168 .fp8e4m3 => shapeCast S8x3072x7168 v shapeCasts_S24576x7168_S8x3072x7168) (W4_codes m ρ c))
theorem W5_v7 (c : Dev nD) : W5 m ρ c (Proc.devRef .tc main_v7) = res3 (m ((c : Thread nD τ).loc main_arg0)) :=
  (host2_7 (W4 m ρ c)).trans (congrArg (fun v : Vec Ideal S24576x1 .f32 => shapeCast S8x3072x1 v shapeCasts_S24576x1_S8x3072x1) (W4_scales m ρ c))

/-- The kernel's run, read at its results and its arguments. -/
theorem run_value : θ_run (defs (F := Ideal)) (onTc (τ := τ) (main (F := Ideal))) ⟨m, fun _ => 0, ρ⟩ (fun r => ∀ c : Dev nD,
      r.2.mem ((c.tc : Thread nD τ).loc main_v4) = res0 (m ((c.tc : Thread nD τ).loc main_arg0)) (m ((c.tc : Thread nD τ).loc main_arg1)) (m ((c.tc : Thread nD τ).loc main_arg2))
      ∧ r.2.mem ((c.tc : Thread nD τ).loc main_v5) = res1 (m ((c.tc : Thread nD τ).loc main_arg0)) (m ((c.tc : Thread nD τ).loc main_arg1)) (m ((c.tc : Thread nD τ).loc main_arg2))
      ∧ r.2.mem ((c.tc : Thread nD τ).loc main_v6) = res2 (m ((c.tc : Thread nD τ).loc main_arg0))
      ∧ r.2.mem ((c.tc : Thread nD τ).loc main_v7) = res3 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (run m ρ) fun r h c =>
    ⟨(run_read m ρ (h.1 c) main_v4 (by decide)).trans (W5_v4 m ρ c),
     (run_read m ρ (h.1 c) main_v5 (by decide)).trans (W5_v5 m ρ c),
     (run_read m ρ (h.1 c) main_v6 (by decide)).trans (W5_v6 m ρ c),
     (run_read m ρ (h.1 c) main_v7 (by decide)).trans (W5_v7 m ρ c),
     (run_read m ρ (h.1 c) main_arg0 (by decide)).trans (W5_main_arg0 m ρ c),
     (run_read m ρ (h.1 c) main_arg1 (by decide)).trans (W5_main_arg1 m ρ c),
     (run_read m ρ (h.1 c) main_arg2 (by decide)).trans (W5_main_arg2 m ρ c)⟩

end Cert.KernelIdeal.Arr

end
-- ==== Proof.Value.Ref.lean ====
module

public import proofs.«01_k».proof.Proof.Gen.ReferenceIdeal.Skeleton
public import proofs.«01_k».proof.Proof.Value.Spec

@[expose] public section

set_option maxRecDepth 16384

/-! # The reference's payloads, read at an index -/

noncomputable section

namespace Cert.ReferenceIdeal.Pure

open Idealize.ShloMosaic Idealize.ShloMosaic.TcCoe Idealize.SL.Sem
open Cert.ReferenceIdeal Cert.ReferenceIdeal.Gen Cert.Value

/-- The row of powers of two. -/
def powV : FVec Ideal S1x252 .f32 :=
  exp2 (sitofp .f32 (addi (iota .tc S1x252 32 [1] iota_S1x252_d1_w32) (broadcast S1x252 4294967171#32)))

/-- Each power where it lies above the row's entry, the largest power elsewhere. -/
def leastV (v7 : FVec Ideal S24576x1 .f32) (p : FVec Ideal S1x252 .f32) : FVec Ideal S24576x252 .f32 :=
  select (cmpf .ogt (broadcastTo S24576x252 p broadcasts_S1x252_S24576x252) (broadcastTo S24576x252 v7 broadcasts_S24576x1_S24576x252))
    (broadcastTo S24576x252 (shapeCast S1x252 p shapeCasts_S1x252_S1x252) broadcasts_S1x252_S24576x252)
    (broadcast S24576x252 (Scalar.ofBits .f32 0x7E800000#32))

/-- A matrix's row minima, as a column. -/
def minV (l : FVec Ideal S24576x252 .f32) : FVec Ideal S24576x1 .f32 :=
  shapeCast S24576x1 (multiReduction .minimumf [1] S24576 l 0x7F800000#32 reduces_S24576x252_S24576 (.inl rfl) rfl) shapeCasts_S24576_S24576x1

/-- The column of scales, from the column of scaled maxima. -/
def scaleV (v7 : FVec Ideal S24576x1 .f32) : FVec Ideal S24576x1 .f32 :=
  select (andi (cmpf .oge v7 (broadcast S24576x1 (Scalar.ofBits .f32 0x00800000#32))) (cmpf .olt v7 (broadcast S24576x1 (Scalar.ofBits .f32 0x7F800000#32))))
    (minV (leastV v7 powV)) (broadcast S24576x1 (Scalar.ofBits .f32 0x3F800000#32))

theorem powV_at (k : Fin 252) : powV (ix2 0 k) = rpow k := by
  pointwise [powV, rpow]
  rfl

theorem leastV_at (v7 : FVec Ideal S24576x1 .f32) (p : FVec Ideal S1x252 .f32) (r : Fin 24576) (k : Fin 252) :
    leastV v7 p (ix2 r k) = Scalar.select (Ideal.cmp .ogt (p (ix2 0 k)) (v7 (ix2 r 0))) (p (ix2 0 k)) (Ideal.ofBits .f32 0x7E800000#32) := by
  rw [select_ogt]
  pointwise [leastV]

theorem minV_at (l : FVec Ideal S24576x252 .f32) (r : Fin 24576) :
    minV l (ix2 r 0) = Finset.univ.fold min (Ideal.ofBits .f32 0x7F800000#32) fun k : Fin 252 => l (ix2 r k) := by
  pointwise [minV]

theorem scaleV_at (v7 : FVec Ideal S24576x1 .f32) (r : Fin 24576) (a : EReal) (h : v7 (ix2 r 0) = yOf a) :
    scaleV v7 (ix2 r 0) = rscale a := by
  have h1 : scaleV v7 (ix2 r 0) = Scalar.select (IntOp.andi (Ideal.cmp .oge (v7 (ix2 r 0)) (Ideal.ofBits .f32 0x00800000#32))
      (Ideal.cmp .olt (v7 (ix2 r 0)) (Ideal.ofBits .f32 0x7F800000#32))) (minV (leastV v7 powV) (ix2 r 0)) (Ideal.ofBits .f32 0x3F800000#32) := rfl
  rw [h1, minV_at, h]
  unfold rscale
  simp only [leastV_at, powV_at, h]

/-- A matrix's row maxima, as a column. -/
def maxVx (v : FVec Ideal S24576x7168 .f32) : FVec Ideal S24576x1 .f32 :=
  shapeCast S24576x1 (multiReduction .maximumf [1] S24576 v 0xFF800000#32 reduces_S24576x7168_S24576 (.inl rfl) rfl) shapeCasts_S24576_S24576x1

def maxVh (v : FVec Ideal S24576x4608 .f32) : FVec Ideal S24576x1 .f32 :=
  shapeCast S24576x1 (multiReduction .maximumf [1] S24576 v 0xFF800000#32 reduces_S24576x4608_S24576 (.inl rfl) rfl) shapeCasts_S24576_S24576x1

theorem maxVx_at (v : FVec Ideal S24576x7168 .f32) (r : Fin 24576) :
    maxVx v (ix2 r 0) = Finset.univ.fold max (Ideal.ofBits .f32 0xFF800000#32) fun k : Fin 7168 => v (ix2 r k) := by
  pointwise [maxVx]

theorem maxVh_at (v : FVec Ideal S24576x4608 .f32) (r : Fin 24576) :
    maxVh v (ix2 r 0) = Finset.univ.fold max (Ideal.ofBits .f32 0xFF800000#32) fun k : Fin 4608 => v (ix2 r k) := by
  pointwise [maxVh]

theorem amax_x (v : FVec Ideal S24576x7168 .f32) (r : Fin 24576) :
    mulf (maxVx (absf v)) (broadcast S24576x1 (Scalar.ofBits .f32 0x3B124925#32)) (ix2 r 0) = yOf (rowMax fun k : Fin 7168 => v (ix2 r k)) := by
  rw [mulf_i, cst_i, maxVx_at]; unfold yOf rowMax; simp only [absf_i]

theorem amax_h (v : FVec Ideal S24576x4608 .f32) (r : Fin 24576) :
    mulf (maxVh (absf v)) (broadcast S24576x1 (Scalar.ofBits .f32 0x3B124925#32)) (ix2 r 0) = yOf (rowMax fun k : Fin 4608 => v (ix2 r k)) := by
  rw [mulf_i, cst_i, maxVh_at]; unfold yOf rowMax; simp only [absf_i]

theorem bcx_at (v : FVec Ideal S24576x1 .f32) (r : Fin 24576) (k : Fin 7168) :
    broadcastTo S24576x7168 v broadcasts_S24576x1_S24576x7168 (ix2 r k) = v (ix2 r 0) := by
  pointwise
theorem bcz_at (v : FVec Ideal S24576x1 .f32) (r : Fin 24576) (k : Fin 9216) :
    broadcastTo S24576x9216 v broadcasts_S24576x1_S24576x9216 (ix2 r k) = v (ix2 r 0) := by
  pointwise
theorem bch_at (v : FVec Ideal S24576x1 .f32) (r : Fin 24576) (k : Fin 4608) :
    broadcastTo S24576x4608 v broadcasts_S24576x1_S24576x4608 (ix2 r k) = v (ix2 r 0) := by
  pointwise
theorem bcs_at (v : FVec Ideal S1x9216 .f32) (r : Fin 24576) (k : Fin 9216) :
    broadcastTo S24576x9216 (shapeCast S1x9216 v shapeCasts_S1x9216_S1x9216) broadcasts_S1x9216_S24576x9216 (ix2 r k) = v (ix2 0 k) := by
  pointwise
theorem mm_at (a : FVec Ideal S24576x7168 .fp8e4m3) (w : FVec Ideal S7168x9216 .fp8e4m3) (r : Fin 24576) (q : Fin 9216) :
    matmul dot_S24576x7168_S7168x9216_S24576x9216_1_0_0_1_n_n none a w (constant (F := Ideal) S24576x9216 .f32 0x00000000#32) (ix2 r q)
      = ∑ k : Fin 7168, a (ix2 r k) * w (ix2 k q) := by
  pointwise
theorem pay1_at (v0 : Vec Ideal S24576x7168 .bf16) : k0_pay1 (F := Ideal) v0 = v0 := by
  funext j; pointwise [k0_pay1]

theorem pay2_at (v0 : Vec Ideal S24576x7168 .bf16) (r : Fin 24576) :
    k0_pay2 (F := Ideal) v0 (ix2 r 0) = rscale (rowMax fun k : Fin 7168 => v0 (ix2 r k)) := by
  exact (scaleV_at _ r _ ((amax_x (k0_pay1 (F := Ideal) v0) r).trans (by rw [pay1_at])))

theorem pay3_at (v0 : Vec Ideal S24576x7168 .bf16) (r : Fin 24576) (k : Fin 7168) :
    k0_pay3 (F := Ideal) v0 (ix2 r k) = codeOf (fun k : Fin 7168 => v0 (ix2 r k)) k := by
  simp only [k0_pay3, truncf_i, minimumf_i, maximumf_i, divf_i, cst_i, bcx_at, pay2_at, pay1_at]
  unfold codeOf clampE
  rfl

theorem pay6_at (a : FVec Ideal S24576x9216 .f32) (b : FVec Ideal S24576x9216 .f32) (r : Fin 24576) (q : Fin 4608) :
    k0_pay6 (F := Ideal) a b (ix2 r q)
      = gateUp (a (ix2 r ⟨q, by omega⟩) * b (ix2 r ⟨q, by omega⟩)) (a (ix2 r ⟨4608 + q, by omega⟩) * b (ix2 r ⟨4608 + q, by omega⟩)) := by
  pointwise [k0_pay6, gateUp]

theorem prod_at (v0 : Vec Ideal S24576x7168 .bf16) (w : Vec Ideal S7168x9216 .fp8e4m3) (ws : Vec Ideal S1x9216 .f32) (r : Fin 24576) (q : Fin 9216) :
    k0_pay4 (F := Ideal) v0 w (ix2 r q) * k0_pay5 (F := Ideal) ws (ix2 r q)
      = zOf (fun k => v0 (ix2 r k)) (fun k => w (ix2 k q)) (ws (ix2 0 q)) := by
  simp only [k0_pay4, k0_pay5, mulf_i, mm_at, bcz_at, bcs_at, pay2_at, pay3_at]
  unfold zOf
  rfl

/-- The gated row, from the three arguments. -/
theorem h_at (v0 : Vec Ideal S24576x7168 .bf16) (w : Vec Ideal S7168x9216 .fp8e4m3) (ws : Vec Ideal S1x9216 .f32) (r : Fin 24576) (q : Fin 4608) :
    k0_pay6 (F := Ideal) (k0_pay4 v0 w) (k0_pay5 ws) (ix2 r q)
      = hOf (fun k => v0 (ix2 r k)) (fun k q => w (ix2 k q)) (fun q => ws (ix2 0 q)) q := by
  rw [pay6_at, prod_at, prod_at]
  rfl

theorem pay7_at (a : FVec Ideal S24576x9216 .f32) (b : FVec Ideal S24576x9216 .f32) (r : Fin 24576) :
    k0_pay7 (F := Ideal) a b (ix2 r 0) = rscale (rowMax fun k : Fin 4608 => k0_pay6 (F := Ideal) a b (ix2 r k)) :=
  scaleV_at _ r _ (amax_h (k0_pay6 (F := Ideal) a b) r)

theorem pay8_at (a : FVec Ideal S24576x9216 .f32) (b : FVec Ideal S24576x9216 .f32) (r : Fin 24576) (q : Fin 4608) :
    k0_pay8 (F := Ideal) a b (ix2 r q) = codeOf (fun q : Fin 4608 => k0_pay6 (F := Ideal) a b (ix2 r q)) q := by
  simp only [k0_pay8, truncf_i, minimumf_i, maximumf_i, divf_i, cst_i, bch_at, pay7_at]
  unfold codeOf clampE
  rfl

end Cert.ReferenceIdeal.Pure

end
-- ==== Proof.Value.RefRun.lean ====
module

public import proofs.«01_k».proof.Proof.Gen.ReferenceIdeal.Frame
public import proofs.«01_k».proof.Proof.Value.Ref
public import proofs.«01_k».proof.Proof.Value.KerRun
public import Idealize.ShloMosaic.Lib.Claim

@[expose] public section

set_option maxRecDepth 16384

/-! # What the reference's run leaves in its results -/

noncomputable section

namespace Cert.ReferenceIdeal.Arr

open Idealize.ShloMosaic Idealize.ShloMosaic.TcCoe Idealize.SL.Sem
open Idealize.ShloMosaic.Pipeline (Dat)
open Cert.ReferenceIdeal Cert.ReferenceIdeal.Gen Cert.ReferenceIdeal.Pure Cert.Value
open Cert.KernelIdeal.Arr (XC XS HS HC gh xOf sOf gOf res0 res1 res2 res3)

variable (m : (ℓ : Loc nD τ sig) → Buf (Elt Ideal) ℓ) (ρ : Dev nD → PrngReg)

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-! ## The host's reshapes -/

theorem V_v0 (c : Dev nD) : V m c main_v0 = xOf (m ((c : Thread nD τ).loc main_arg0)) := by
  unfold V V0
  simp only [List.flatten_cons, List.flatten_nil, List.append_nil, StableHlo.after_cons, StableHlo.after_nil]
  after_results_steps
  rfl
theorem V_v1 (c : Dev nD) : V m c main_v1 = sOf (m ((c : Thread nD τ).loc main_arg2)) := by
  unfold V V0
  simp only [List.flatten_cons, List.flatten_nil, List.append_nil, StableHlo.after_cons, StableHlo.after_nil]
  after_results_steps
  rfl

theorem host1_3 (G : Valuation τ sig (Elt Ideal)) :
    StableHlo.after (List.flatten [hostOps1 (F := Ideal)]) G (Proc.devRef .tc main_v3)
      = shapeCast (s := S24576x1) S8x3072x1 (G (Proc.devRef .tc main_v2_0)) shapeCasts_S24576x1_S8x3072x1 := by
  simp only [List.flatten_cons, List.flatten_nil, List.append_nil, StableHlo.after_cons, StableHlo.after_nil]
  after_results_steps
  rfl
theorem host1_4 (G : Valuation τ sig (Elt Ideal)) :
    StableHlo.after (List.flatten [hostOps1 (F := Ideal)]) G (Proc.devRef .tc main_v4)
      = shapeCast (s := S24576x4608) S8x3072x4608 (G (Proc.devRef .tc main_v2_1)) shapeCasts_S24576x4608_S8x3072x4608 := by
  simp only [List.flatten_cons, List.flatten_nil, List.append_nil, StableHlo.after_cons, StableHlo.after_nil]
  after_results_steps
  rfl
theorem host1_5 (G : Valuation τ sig (Elt Ideal)) :
    StableHlo.after (List.flatten [hostOps1 (F := Ideal)]) G (Proc.devRef .tc main_v5)
      = shapeCast (s := S24576x7168) S8x3072x7168 (G (Proc.devRef .tc main_v2_2)) shapeCasts_S24576x7168_S8x3072x7168 := by
  simp only [List.flatten_cons, List.flatten_nil, List.append_nil, StableHlo.after_cons, StableHlo.after_nil]
  after_results_steps
  rfl
theorem host1_6 (G : Valuation τ sig (Elt Ideal)) :
    StableHlo.after (List.flatten [hostOps1 (F := Ideal)]) G (Proc.devRef .tc main_v6)
      = shapeCast (s := S24576x1) S8x3072x1 (G (Proc.devRef .tc main_v2_3)) shapeCasts_S24576x1_S8x3072x1 := by
  simp only [List.flatten_cons, List.flatten_nil, List.append_nil, StableHlo.after_cons, StableHlo.after_nil]
  after_results_steps
  rfl

/-! ## The blocks are the arrays -/

theorem ld_x (x : Vec Ideal S24576x7168 .bf16) : View.ld x r0_0 = x := by
  funext j; pointwise
theorem ld_w (x : Vec Ideal S7168x9216 .fp8e4m3) : View.ld x r0_1 = x := by
  funext j; pointwise
theorem ld_s (x : Vec Ideal S1x9216 .f32) : View.ld x r0_2 = x := by
  funext j
  obtain ⟨r, k, rfl⟩ : ∃ (r : Fin 1) (k : Fin 9216), j = ix2 r k := ⟨j 0, j 1, eq_ix2 j⟩
  obtain rfl : r = 0 := Subsingleton.elim _ _
  pointwise

theorem in_0 (c : Dev nD) (t : Fin cfg0.N) : iblk m c 0 t = xOf (m ((c : Thread nD τ).loc main_arg0)) := by
  refine Eq.trans ?_ (V_v0 m c)
  funext y
  obtain ⟨r, k, rfl⟩ : ∃ (r : Fin 24576) (k : Fin 7168), y = ix2 r k := ⟨y 0, y 1, eq_ix2 y⟩
  blk_ext [iblk, idx0 t]
theorem in_1 (c : Dev nD) (t : Fin cfg0.N) : iblk m c 1 t = m ((c : Thread nD τ).loc main_arg1) := by
  refine Eq.trans ?_ (V_main_arg1 m c)
  funext y
  obtain ⟨r, k, rfl⟩ : ∃ (r : Fin 7168) (k : Fin 9216), y = ix2 r k := ⟨y 0, y 1, eq_ix2 y⟩
  blk_ext [iblk, idx0 t]
theorem in_2 (c : Dev nD) (t : Fin cfg0.N) : iblk m c 2 t = sOf (m ((c : Thread nD τ).loc main_arg2)) := by
  refine Eq.trans ?_ (V_v1 m c)
  funext y
  obtain ⟨r, k, rfl⟩ : ∃ (r : Fin 1) (k : Fin 9216), y = ix2 r k := ⟨y 0, y 1, eq_ix2 y⟩
  blk_ext [iblk, idx0 t]

/-! ## What the body leaves -/

theorem row_eq (X : Vec Ideal S24576x7168 .bf16) (W : Vec Ideal S7168x9216 .fp8e4m3) (s : Vec Ideal S1x9216 .f32) (r : Fin 24576) :
    (fun q : Fin 4608 => k0_pay6 (F := Ideal) (k0_pay4 X W) (k0_pay5 s) (ix2 r q)) = gh (XC X) (XS X) W s r := by
  funext q
  exact (h_at X W s r q).trans rfl

theorem o3_at (X : Vec Ideal S24576x7168 .bf16) (W : Vec Ideal S7168x9216 .fp8e4m3) (s : Vec Ideal S1x9216 .f32) (r : Fin 24576) :
    out0_3 (F := Ideal) X W s (ix2 r 0) = HS (gh (XC X) (XS X) W s) (ix2 r 0) := by
  have h : out0_3 (F := Ideal) X W s = k0_pay7 (F := Ideal) (k0_pay9 X W s) (k0_pay10 X W s) := by
    unfold out0_3; frame_out
  rw [h]
  unfold k0_pay9 k0_pay10
  rw [ld_x, ld_w, ld_s, pay7_at, row_eq]
  rfl
theorem o4_at (X : Vec Ideal S24576x7168 .bf16) (W : Vec Ideal S7168x9216 .fp8e4m3) (s : Vec Ideal S1x9216 .f32) (r : Fin 24576) (q : Fin 4608) :
    out0_4 (F := Ideal) X W s (ix2 r q) = HC (gh (XC X) (XS X) W s) (ix2 r q) := by
  have h : out0_4 (F := Ideal) X W s = k0_pay8 (F := Ideal) (k0_pay9 X W s) (k0_pay10 X W s) := by
    unfold out0_4; frame_out
  rw [h]
  unfold k0_pay9 k0_pay10
  rw [ld_x, ld_w, ld_s, pay8_at, row_eq]
  rfl
theorem o5_at (X : Vec Ideal S24576x7168 .bf16) (W : Vec Ideal S7168x9216 .fp8e4m3) (s : Vec Ideal S1x9216 .f32) (r : Fin 24576) (k : Fin 7168) :
    out0_5 (F := Ideal) X W s (ix2 r k) = XC X (ix2 r k) := by
  have h : out0_5 (F := Ideal) X W s = k0_pay3 (F := Ideal) (View.ld X r0_0) := by
    unfold out0_5; frame_out
  rw [h, ld_x, pay3_at]
  rfl
theorem o6_at (X : Vec Ideal S24576x7168 .bf16) (W : Vec Ideal S7168x9216 .fp8e4m3) (s : Vec Ideal S1x9216 .f32) (r : Fin 24576) :
    out0_6 (F := Ideal) X W s (ix2 r 0) = XS X (ix2 r 0) := by
  have h : out0_6 (F := Ideal) X W s = k0_pay2 (F := Ideal) (View.ld X r0_0) := by
    unfold out0_6; frame_out
  rw [h, ld_x, pay2_at]
  rfl

/-! ## The arrays -/

abbrev gM (c : Dev nD) : Fin 24576 → Fin 4608 → EReal :=
  gOf (m ((c : Thread nD τ).loc main_arg0)) (m ((c : Thread nD τ).loc main_arg1)) (m ((c : Thread nD τ).loc main_arg2))

theorem final3 (c : Dev nD) : (dats m 0 c).arrAt 3 cfg0.N = HS (gM m c) := by
  refine (dats m 0 c).arrAt_eq_of_covers 3 _ (by decide +kernel) fun t _ y => ?_
  blk_simp
  rw [after0_3, in_0, in_1, in_2]
  obtain ⟨r, k, rfl⟩ : ∃ (r : Fin 24576) (k : Fin 1), y = ix2 r k := ⟨y 0, y 1, eq_ix2 y⟩
  obtain rfl : k = 0 := Subsingleton.elim _ _
  have hE : (win0_3.blk t).view.emb (ix2 r 0) = ix2 r 0 := by
    blk_ext [idx0 t]
  rw [hE]
  exact o3_at _ _ _ r
theorem final4 (c : Dev nD) : (dats m 0 c).arrAt 4 cfg0.N = HC (gM m c) := by
  refine (dats m 0 c).arrAt_eq_of_covers 4 _ (by decide +kernel) fun t _ y => ?_
  blk_simp
  rw [after0_4, in_0, in_1, in_2]
  obtain ⟨r, k, rfl⟩ : ∃ (r : Fin 24576) (k : Fin 4608), y = ix2 r k := ⟨y 0, y 1, eq_ix2 y⟩
  have hE : (win0_4.blk t).view.emb (ix2 r k) = ix2 r k := by
    blk_ext [idx0 t]
  rw [hE]
  exact o4_at _ _ _ r k
theorem final5 (c : Dev nD) : (dats m 0 c).arrAt 5 cfg0.N = XC (xOf (m ((c : Thread nD τ).loc main_arg0))) := by
  refine (dats m 0 c).arrAt_eq_of_covers 5 _ (by decide +kernel) fun t _ y => ?_
  blk_simp
  rw [after0_5, in_0, in_1, in_2]
  obtain ⟨r, k, rfl⟩ : ∃ (r : Fin 24576) (k : Fin 7168), y = ix2 r k := ⟨y 0, y 1, eq_ix2 y⟩
  have hE : (win0_5.blk t).view.emb (ix2 r k) = ix2 r k := by
    blk_ext [idx0 t]
  rw [hE]
  exact o5_at _ _ _ r k
theorem final6 (c : Dev nD) : (dats m 0 c).arrAt 6 cfg0.N = XS (xOf (m ((c : Thread nD τ).loc main_arg0))) := by
  refine (dats m 0 c).arrAt_eq_of_covers 6 _ (by decide +kernel) fun t _ y => ?_
  blk_simp
  rw [after0_6, in_0, in_1, in_2]
  obtain ⟨r, k, rfl⟩ : ∃ (r : Fin 24576) (k : Fin 1), y = ix2 r k := ⟨y 0, y 1, eq_ix2 y⟩
  obtain rfl : k = 0 := Subsingleton.elim _ _
  have hE : (win0_6.blk t).view.emb (ix2 r 0) = ix2 r 0 := by
    blk_ext [idx0 t]
  rw [hE]
  exact o6_at _ _ _ r

/-! ## The results -/

/-- An array of the region, as the lines after it find it. -/
theorem tail_arr (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 launch0.win.arr_inj c _ _ w

theorem T_v3 (c : Dev nD) : Pipeline.afterTail₀ cfgs (dats m) 0 (V0 m) [hostOps1] c main_v3
    = res0 (m ((c : Thread nD τ).loc main_arg0)) (m ((c : Thread nD τ).loc main_arg1)) (m ((c : Thread nD τ).loc main_arg2)) := by
  unfold Pipeline.afterTail₀
  exact (host1_3 _).trans (congrArg (fun v : Vec Ideal S24576x1 .f32 => shapeCast S8x3072x1 v shapeCasts_S24576x1_S8x3072x1) ((tail_arr m c 3).trans (final3 m c)))
theorem T_v4 (c : Dev nD) : Pipeline.afterTail₀ cfgs (dats m) 0 (V0 m) [hostOps1] c main_v4
    = res1 (m ((c : Thread nD τ).loc main_arg0)) (m ((c : Thread nD τ).loc main_arg1)) (m ((c : Thread nD τ).loc main_arg2)) := by
  unfold Pipeline.afterTail₀
  exact (host1_4 _).trans (congrArg (fun v : Vec Ideal S24576x4608 .fp8e4m3 => shapeCast S8x3072x4608 v shapeCasts_S24576x4608_S8x3072x4608) ((tail_arr m c 4).trans (final4 m c)))
theorem T_v5 (c : Dev nD) : Pipeline.afterTail₀ cfgs (dats m) 0 (V0 m) [hostOps1] c main_v5 = res2 (m ((c : Thread nD τ).loc main_arg0)) := by
  unfold Pipeline.afterTail₀
  exact (host1_5 _).trans (congrArg (fun v : Vec Ideal S24576x7168 .fp8e4m3 => shapeCast S8x3072x7168 v shapeCasts_S24576x7168_S8x3072x7168) ((tail_arr m c 5).trans (final5 m c)))
theorem T_v6 (c : Dev nD) : Pipeline.afterTail₀ cfgs (dats m) 0 (V0 m) [hostOps1] c main_v6 = res3 (m ((c : Thread nD τ).loc main_arg0)) := by
  unfold Pipeline.afterTail₀
  exact (host1_6 _).trans (congrArg (fun v : Vec Ideal S24576x1 .f32 => shapeCast S8x3072x1 v shapeCasts_S24576x1_S8x3072x1) ((tail_arr m c 6).trans (final6 m c)))

/-- The reference's run, read at its results. -/
theorem run_results : θ_run (defs (F := Ideal)) (onTc (τ := τ) (main (F := Ideal))) ⟨m, fun _ => 0, ρ⟩ (fun r => ∀ c : Dev nD,
      r.2.mem ((c.tc : Thread nD τ).loc main_v3) = res0 (m ((c.tc : Thread nD τ).loc main_arg0)) (m ((c.tc : Thread nD τ).loc main_arg1)) (m ((c.tc : Thread nD τ).loc main_arg2))
      ∧ r.2.mem ((c.tc : Thread nD τ).loc main_v4) = res1 (m ((c.tc : Thread nD τ).loc main_arg0)) (m ((c.tc : Thread nD τ).loc main_arg1)) (m ((c.tc : Thread nD τ).loc main_arg2))
      ∧ r.2.mem ((c.tc : Thread nD τ).loc main_v5) = res2 (m ((c.tc : Thread nD τ).loc main_arg0))
      ∧ r.2.mem ((c.tc : Thread nD τ).loc main_v6) = res3 (m ((c.tc : Thread nD τ).loc main_arg0))) :=
  θ_run_mono (run_main m ρ) fun r h c =>
    ⟨((h c).2 main_v3 (Pipeline.mem_restRefs_of main_v3 (by decide) (by decide))).trans (T_v3 m c),
     ((h c).2 main_v4 (Pipeline.mem_restRefs_of main_v4 (by decide) (by decide))).trans (T_v4 m c),
     ((h c).2 main_v5 (Pipeline.mem_restRefs_of main_v5 (by decide) (by decide))).trans (T_v5 m c),
     ((h c).2 main_v6 (Pipeline.mem_restRefs_of main_v6 (by decide) (by decide))).trans (T_v6 m c)⟩

/-- The reference's run, read at its results and its arguments. -/
theorem run_value : θ_run (defs (F := Ideal)) (onTc (τ := τ) (main (F := Ideal))) ⟨m, fun _ => 0, ρ⟩ (fun r => ∀ c : Dev nD,
      r.2.mem ((c.tc : Thread nD τ).loc main_v3) = res0 (m ((c.tc : Thread nD τ).loc main_arg0)) (m ((c.tc : Thread nD τ).loc main_arg1)) (m ((c.tc : Thread nD τ).loc main_arg2))
      ∧ r.2.mem ((c.tc : Thread nD τ).loc main_v4) = res1 (m ((c.tc : Thread nD τ).loc main_arg0)) (m ((c.tc : Thread nD τ).loc main_arg1)) (m ((c.tc : Thread nD τ).loc main_arg2))
      ∧ r.2.mem ((c.tc : Thread nD τ).loc main_v5) = res2 (m ((c.tc : Thread nD τ).loc main_arg0))
      ∧ r.2.mem ((c.tc : Thread nD τ).loc main_v6) = res3 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_results m ρ) (unchanged m ρ)) fun r h c =>
    ⟨(h.1 c).1, (h.1 c).2.1, (h.1 c).2.2.1, (h.1 c).2.2.2, h.2 c⟩

end Cert.ReferenceIdeal.Arr

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Value.KerRun
public import proofs.«01_k».proof.Proof.Value.RefRun
public import Idealize.ShloMosaic.Adequacy
public import Idealize.ShloMosaic.Init

@[expose] public section

noncomputable section

namespace Cert.Proof

open Idealize.ShloMosaic Idealize.SL.Sem Cert.Kernel

/-- The kernel and the reference leave the same results: both leave `res0` … `res3` of the arguments. -/
theorem agree : @Cert.algebraic_KernelIdeal_ReferenceIdeal Cert.KernelIdeal.Gen.facts Cert.ReferenceIdeal.Gen.facts := by
  intro m g m' g' _ hargs
  refine ⟨_, _, _, _, Cert.KernelIdeal.Arr.run_value m g, ?_⟩
  refine θ_run_mono (Cert.ReferenceIdeal.Arr.run_value m' g') fun r h c => ?_
  obtain ⟨h0, h1, h2, h3, ha⟩ := h c
  obtain ⟨e0, e1, e2⟩ := hargs c
  refine ⟨h0.trans ?_, h1.trans ?_, h2.trans ?_, h3.trans ?_, ha⟩
  · rw [e0, e1, e2]
  · rw [e0, e1, e2]
  · rw [e0]
  · rw [e0]

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, agree⟩

end Cert.Proof

end
